-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2 = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_in_range : Cert.Pre_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_in_range := hPre_in_range)
-- ==== Pre_finite_scores.lean ====
abbrev S8448x2560 : Shape := ⟨2, ![8448, 2560]⟩
abbrev S8 : Shape := ⟨1, ![8]⟩
abbrev S4x16x2048x1408 : Shape := ⟨4, ![4, 16, 2048, 1408]⟩
abbrev S8448x1024 : Shape := ⟨2, ![8448, 1024]⟩
abbrev S_ : Shape := ⟨0, ![]⟩
abbrev S8448x256 : Shape := ⟨2, ![8448, 256]⟩

class Facts : Prop where
  slices_S8448x2560_S8448x1024_0_0 : S8448x2560.Slices ![0, 0] S8448x1024
  bcast_S_S8448x1024 : S_.BroadcastsInDim S8448x1024 (![] : Fin 0 → Fin S8448x1024.rank)
  slices_S8448x2560_S8448x256_0_2048 : S8448x2560.Slices ![0, 2048] S8448x256
  bcast_S_S8448x256 : S_.BroadcastsInDim S8448x256 (![] : Fin 0 → Fin S8448x256.rank)
  bcast_S_S8 : S_.BroadcastsInDim S8 (![] : Fin 0 → Fin S8.rank)

variable [Facts]

def fn {F : FTy → Type} [FloatOps F] (main_arg0 : FVec F S8448x2560 .f32) (main_arg1 : FVec F S8 .f32) (main_arg2 : FVec F S4x16x2048x1408 .f32) : IVec S8448x1024 1 × IVec S8448x256 1 × IVec S8 1 :=
  let main_v0 : FVec F S8448x1024 .f32 := (extractStridedSlice S8448x1024 ![0, 0] · slices_S8448x2560_S8448x1024_0_0) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S8448x256 .f32 := (extractStridedSlice S8448x256 ![0, 2048] · slices_S8448x2560_S8448x256_0_2048) main_arg0
  let main_v5 : FVec F S8448x256 .f32 := Host.absf main_v4
  let main_cst_0 : FVec F S_ .f32 := constant S_ .f32 0x7F800000#32
  let main_v6 : FVec F S8448x256 .f32 := broadcastInDim S8448x256 ![] bcast_S_S8448x256 main_cst_0
  let main_v7 : IVec S8448x256 1 := cmpf .olt main_v5 main_v6
  let main_v8 : FVec F S8 .f32 := Host.absf main_arg1
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v3, main_v7, main_v10)
-- ==== Pre_in_range.lean ====
abbrev S419840x128 : Shape := ⟨2, ![419840, 128]⟩
abbrev S82 : Shape := ⟨1, ![82]⟩
abbrev S1 : Shape := ⟨1, ![1]⟩
abbrev S16x2048x1408 : Shape := ⟨3, ![16, 2048, 1408]⟩
abbrev S16x1408x2048 : Shape := ⟨3, ![16, 1408, 2048]⟩
abbrev S_ : Shape := ⟨0, ![]⟩

class Facts : Prop where
  bcast_S_S82 : S_.BroadcastsInDim S82 (![] : Fin 0 → Fin S82.rank)
  bcast_S_S1 : S_.BroadcastsInDim S1 (![] : Fin 0 → Fin S1.rank)

variable [Facts]

def fn {F : FTy → Type} [FloatOps F] (main_arg0 : FVec F S419840x128 .f32) (main_arg1 : IVec S82 32) (main_arg2 : IVec S1 32) (main_arg3 : FVec F S16x2048x1408 .bf16) (main_arg4 : FVec F S16x2048x1408 .bf16) (main_arg5 : FVec F S16x1408x2048 .bf16) : IVec S82 1 × IVec S82 1 × IVec S1 1 :=
  let main_c : IVec S_ 32 := constantI S_ 32 0#32
  let main_v0 : IVec S82 32 := broadcastInDim S82 ![] bcast_S_S82 main_c
  let main_v1 : IVec S82 1 := cmpi .sge main_arg1 main_v0
  let main_c_0 : IVec S_ 32 := constantI S_ 32 16#32
  let main_v2 : IVec S82 32 := broadcastInDim S82 ![] bcast_S_S82 main_c_0
  let main_v3 : IVec S82 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  (main_v1, main_v3, main_v5)
-- ==== Kernel.lean ====
abbrev S8448x2560 : Shape := ⟨2, ![8448, 2560]⟩
abbrev S8 : Shape := ⟨1, ![8]⟩
abbrev S4x16x2048x1408 : Shape := ⟨4, ![4, 16, 2048, 1408]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S131072x1408 : Shape := ⟨2, ![131072, 1408]⟩
abbrev S8448x1024 : Shape := ⟨2, ![8448, 1024]⟩
abbrev S32768x1408 : Shape := ⟨2, ![32768, 1408]⟩
abbrev S128x1024 : Shape := ⟨2, ![128, 1024]⟩
abbrev S128x256 : Shape := ⟨2, ![128, 256]⟩
abbrev S256x256 : Shape := ⟨2, ![256, 256]⟩
abbrev S128x128 : Shape := ⟨2, ![128, 128]⟩
abbrev S512x1408 : Shape := ⟨2, ![512, 1408]⟩
abbrev S512x128 : Shape := ⟨2, ![512, 128]⟩
abbrev S640x128 : Shape := ⟨2, ![640, 128]⟩
abbrev S512x640 : Shape := ⟨2, ![512, 640]⟩
abbrev S512x1 : Shape := ⟨2, ![512, 1]⟩
abbrev S1 : Shape := ⟨1, ![1]⟩
abbrev S512 : Shape := ⟨1, ![512]⟩

abbrev nBuf : Space → Nat
  | .hbm => 55
  | .vmem => 37
  | .smem => 1
  | _ => 0

abbrev bufTy : (tb : Table) → Fin (tcTables nBuf tb) → BufTy
  | .hbm, ⟨0, _⟩ => ⟨S8448x2560, .f32⟩
  | .hbm, ⟨1, _⟩ => ⟨S8, .f32⟩
  | .hbm, ⟨2, _⟩ => ⟨S4x16x2048x1408, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x128, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x128, .f32⟩
  | .hbm, ⟨46, _⟩ => ⟨S_, .f32⟩
  | .hbm, ⟨47, _⟩ => ⟨S256x128, .f32⟩
  | .hbm, ⟨48, _⟩ => ⟨S8448x128, .f32⟩
  | .hbm, ⟨49, _⟩ => ⟨S_, .f32⟩
  | .hbm, ⟨50, _⟩ => ⟨S256x128, .f32⟩
  | .hbm, ⟨51, _⟩ => ⟨S8448x128, .f32⟩
  | .hbm, ⟨52, _⟩ => ⟨S131072x1408, .f32⟩
  | .hbm, ⟨53, _⟩ => ⟨S8448x1024, .bf16⟩
  | .hbm, ⟨54, _⟩ => ⟨S32768x1408, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S256x256, .f32⟩
  | .local _ .vmem, ⟨15, _⟩ => ⟨S256x256, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S512x1408, .f32⟩
  | .local _ .vmem, ⟨29, _⟩ => ⟨S512x1408, .f32⟩
  | .local _ .vmem, ⟨30, _⟩ => ⟨S128x1024, .bf16⟩
  | .local _ .vmem, ⟨31, _⟩ => ⟨S128x1024, .bf16⟩
  | .local _ .vmem, ⟨32, _⟩ => ⟨S512x1408, .bf16⟩
  | .local _ .vmem, ⟨33, _⟩ => ⟨S512x1408, .bf16⟩
  | .local _ .vmem, ⟨34, _⟩ => ⟨S512x128, .bf16⟩
  | .local _ .vmem, ⟨35, _⟩ => ⟨S640x128, .bf16⟩
  | .local _ .vmem, ⟨36, _⟩ => ⟨S640x128, .bf16⟩
  | .local _ .smem, ⟨0, _⟩ => ⟨S8, .f32⟩
  | _, _ => ⟨S8448x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44_0 : Ref sig .tc := ⟨.hbm, 53, rfl⟩
abbrev main_v44_1 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![66], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c65_i32 : BitVec 32 := 65#32
  let v1 : BitVec 32 := Scalar.minsi v0 c65_i32
  let c8_i32 : BitVec 32 := 8#32
  let c0_i32 : BitVec 32 := 0#32
  ![v1.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c65_i32 : BitVec 32 := 65#32
  let v1 : BitVec 32 := Scalar.minsi v0 c65_i32
  let c9_i32 : BitVec 32 := 9#32
  let c0_i32 : BitVec 32 := 0#32
  ![v1.toNat, c9_i32.toNat]

def cc0_transform_8 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_9 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c65_i32 : BitVec 32 := 65#32
  let v1 : BitVec 32 := Scalar.minsi v0 c65_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c65_i32 : BitVec 32 := 65#32
  let v1 : BitVec 32 := Scalar.minsi v0 c65_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c64_i32 : BitVec 32 := 64#32
  let v1 : BitVec 32 := Scalar.addi c64_i32 v0
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1408 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8448x2560 : Shape := ⟨2, ![8448, 2560]⟩
abbrev S8 : Shape := ⟨1, ![8]⟩
abbrev S4x16x2048x1408 : Shape := ⟨4, ![4, 16, 2048, 1408]⟩
abbrev S8448x1024 : Shape := ⟨2, ![8448, 1024]⟩
abbrev S1x8448x1024 : Shape := ⟨3, ![1, 8448, 1024]⟩
abbrev S1x8448x8x128 : Shape := ⟨4, ![1, 8448, 8, 128]⟩
abbrev S8448x256 : Shape := ⟨2, ![8448, 256]⟩
abbrev S1x8448x256 : Shape := ⟨3, ![1, 8448, 256]⟩
abbrev S1x8448x2x128 : Shape := ⟨4, ![1, 8448, 2, 128]⟩
abbrev S1x256x8x128 : Shape := ⟨4, ![1, 256, 8, 128]⟩
abbrev S1x256x2x128 : Shape := ⟨4, ![1, 256, 2, 128]⟩
abbrev S1x8192x8x128 : Shape := ⟨4, ![1, 8192, 8, 128]⟩
abbrev S1x8192x2x128 : Shape := ⟨4, ![1, 8192, 2, 128]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x8x64 : Shape := ⟨4, ![1, 8192, 8, 64]⟩
abbrev S1x8192x8x32 : Shape := ⟨4, ![1, 8192, 8, 32]⟩
abbrev S1x8192x1x32 : Shape := ⟨4, ![1, 8192, 1, 32]⟩
abbrev S1x8192x2x64 : Shape := ⟨4, ![1, 8192, 2, 64]⟩
abbrev S1x8192x2x32 : Shape := ⟨4, ![1, 8192, 2, 32]⟩
abbrev S1x64x128x2x4x128 : Shape := ⟨6, ![1, 64, 128, 2, 4, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S1x2x256x64x128x4 : Shape := ⟨6, ![1, 2, 256, 64, 128, 4]⟩
abbrev S1x64x2x4x128x256 : Shape := ⟨6, ![1, 64, 2, 4, 128, 256]⟩
abbrev S64x1 : Shape := ⟨2, ![64, 1]⟩
abbrev S1x128 : Shape := ⟨2, ![1, 128]⟩
abbrev S64x128 : Shape := ⟨2, ![64, 128]⟩
abbrev S64x128x1 : Shape := ⟨3, ![64, 128, 1]⟩
abbrev S384 : Shape := ⟨1, ![384]⟩
abbrev S1x384 : Shape := ⟨2, ![1, 384]⟩
abbrev S64x384 : Shape := ⟨2, ![64, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x2x4x1x1 : Shape := ⟨6, ![1, 1, 2, 4, 1, 1]⟩
abbrev S1x64x2x4x128x1 : Shape := ⟨6, ![1, 64, 2, 4, 128, 1]⟩
abbrev S1x64x2x4x128x641 : Shape := ⟨6, ![1, 64, 2, 4, 128, 641]⟩
abbrev S1x64x2x4x128 : Shape := ⟨5, ![1, 64, 2, 4, 128]⟩
abbrev S1x64x2x128x4x128 : Shape := ⟨6, ![1, 64, 2, 128, 4, 128]⟩
abbrev S1x2x128x64x4x128 : Shape := ⟨6, ![1, 2, 128, 64, 4, 128]⟩
abbrev S1x8192x1024 : Shape := ⟨3, ![1, 8192, 1024]⟩
abbrev S1x256x2x4x128 : Shape := ⟨5, ![1, 256, 2, 4, 128]⟩
abbrev S1x2x256x256x4 : Shape := ⟨5, ![1, 2, 256, 256, 4]⟩
abbrev S1x2x4x256x256 : Shape := ⟨5, ![1, 2, 4, 256, 256]⟩
abbrev S1x2x4x1x1 : Shape := ⟨5, ![1, 2, 4, 1, 1]⟩
abbrev S1x2x4x256x1 : Shape := ⟨5, ![1, 2, 4, 256, 1]⟩
abbrev S1x2x4x256x257 : Shape := ⟨5, ![1, 2, 4, 256, 257]⟩
abbrev S1x2x4x256 : Shape := ⟨4, ![1, 2, 4, 256]⟩
abbrev S1x2x128x4x256 : Shape := ⟨5, ![1, 2, 128, 4, 256]⟩
abbrev S1x256x1024 : Shape := ⟨3, ![1, 256, 1024]⟩
abbrev S256x1024 : Shape := ⟨2, ![256, 1024]⟩
abbrev S8192x1024 : Shape := ⟨2, ![8192, 1024]⟩
abbrev S1x16x2048x1408 : Shape := ⟨4, ![1, 16, 2048, 1408]⟩
abbrev S16x2048x1408 : Shape := ⟨3, ![16, 2048, 1408]⟩
abbrev S32768x1408 : Shape := ⟨2, ![32768, 1408]⟩

abbrev nBuf : Space → Nat
  | .hbm => 255
  | .vmem => 0
  | .smem => 0
  | _ => 0

abbrev hbmTy0_0 (i : Nat) : BufTy := match i % 128 with
  | 0 => ⟨S8448x2560, .f32⟩
  | 1 => ⟨S8, .f32⟩
  | 2 => ⟨S4x16x2048x1408, .f32⟩
  | 3 => ⟨S8448x1024, .f32⟩
  | 4 => ⟨S1x8448x1024, .f32⟩
  | 5 => ⟨S1x8448x8x128, .f32⟩
  | 6 => ⟨S8448x256, .f32⟩
  | 7 => ⟨S1x8448x256, .f32⟩
  | 8 => ⟨S1x8448x2x128, .f32⟩
  | 9 => ⟨S8448x256, .f32⟩
  | 10 => ⟨S1x8448x256, .f32⟩
  | 11 => ⟨S1x8448x2x128, .f32⟩
  | 12 => ⟨S1x256x8x128, .f32⟩
  | 13 => ⟨S1x256x2x128, .f32⟩
  | 14 => ⟨S1x256x2x128, .f32⟩
  | 15 => ⟨S1x8192x8x128, .f32⟩
  | 16 => ⟨S1x8192x2x128, .f32⟩
  | 17 => ⟨S1x8192x2x128, .f32⟩
  | 18 => ⟨S128, .f32⟩
  | 19 => ⟨S128x1, .f32⟩
  | 20 => ⟨S128x64, .f32⟩
  | 21 => ⟨S8192, .f32⟩
  | 22 => ⟨S64, .f32⟩
  | 23 => ⟨S1x64, .f32⟩
  | 24 => ⟨S128x64, .f32⟩
  | 25 => ⟨S8192, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S8192x1, .f32⟩
  | 41 => ⟨S1x32, .f32⟩
  | 42 => ⟨S8192x32, .f32⟩
  | 43 => ⟨S8192x32, .f32⟩
  | 44 => ⟨S8192x32, .f32⟩
  | 45 => ⟨S8192x1, .f32⟩
  | 46 => ⟨S1x32, .f32⟩
  | 47 => ⟨S8192x32, .f32⟩
  | 48 => ⟨S8192x32, .f32⟩
  | 49 => ⟨S8192x32, .f32⟩
  | 50 => ⟨S8192x32, .f32⟩
  | 51 => ⟨S8192x32, .f32⟩
  | 52 => ⟨S8192x32, .f32⟩
  | 53 => ⟨S8192x32, .f32⟩
  | 54 => ⟨S1x8192x8x64, .f32⟩
  | 55 => ⟨S1x8192x8x64, .f32⟩
  | 56 => ⟨S1x8192x8x32, .f32⟩
  | 57 => ⟨S1x8192x8x32, .f32⟩
  | 58 => ⟨S1x8192x1x32, .f32⟩
  | 59 => ⟨S1x8192x1x32, .f32⟩
  | 60 => ⟨S1x8192x8x32, .f32⟩
  | 61 => ⟨S1x8192x8x32, .f32⟩
  | 62 => ⟨S1x8192x8x32, .f32⟩
  | 63 => ⟨S1x8192x8x32, .f32⟩
  | 64 => ⟨S1x8192x8x32, .f32⟩
  | 65 => ⟨S1x8192x8x32, .f32⟩
  | 66 => ⟨S1x8192x8x32, .f32⟩
  | 67 => ⟨S1x8192x8x32, .f32⟩
  | 68 => ⟨S1x8192x8x32, .f32⟩
  | 69 => ⟨S1x8192x8x32, .f32⟩
  | 70 => ⟨S1x8192x8x64, .f32⟩
  | 71 => ⟨S1x8192x8x32, .f32⟩
  | 72 => ⟨S1x8192x8x32, .f32⟩
  | 73 => ⟨S1x8192x1x32, .f32⟩
  | 74 => ⟨S1x8192x1x32, .f32⟩
  | 75 => ⟨S1x8192x8x32, .f32⟩
  | 76 => ⟨S1x8192x8x32, .f32⟩
  | 77 => ⟨S1x8192x8x32, .f32⟩
  | 78 => ⟨S1x8192x8x32, .f32⟩
  | 79 => ⟨S1x8192x8x32, .f32⟩
  | 80 => ⟨S1x8192x8x32, .f32⟩
  | 81 => ⟨S1x8192x8x32, .f32⟩
  | 82 => ⟨S1x8192x8x32, .f32⟩
  | 83 => ⟨S1x8192x8x32, .f32⟩
  | 84 => ⟨S1x8192x8x32, .f32⟩
  | 85 => ⟨S1x8192x8x64, .f32⟩
  | 86 => ⟨S1x8192x8x128, .f32⟩
  | 87 => ⟨S1x8192x2x64, .f32⟩
  | 88 => ⟨S1x8192x2x64, .f32⟩
  | 89 => ⟨S1x8192x2x32, .f32⟩
  | 90 => ⟨S1x8192x2x32, .f32⟩
  | 91 => ⟨S1x8192x1x32, .f32⟩
  | 92 => ⟨S1x8192x1x32, .f32⟩
  | 93 => ⟨S1x8192x2x32, .f32⟩
  | 94 => ⟨S1x8192x2x32, .f32⟩
  | 95 => ⟨S1x8192x2x32, .f32⟩
  | 96 => ⟨S1x8192x2x32, .f32⟩
  | 97 => ⟨S1x8192x2x32, .f32⟩
  | 98 => ⟨S1x8192x2x32, .f32⟩
  | 99 => ⟨S1x8192x2x32, .f32⟩
  | 100 => ⟨S1x8192x2x32, .f32⟩
  | 101 => ⟨S1x8192x2x32, .f32⟩
  | 102 => ⟨S1x8192x2x32, .f32⟩
  | 103 => ⟨S1x8192x2x64, .f32⟩
  | 104 => ⟨S1x8192x2x32, .f32⟩
  | 105 => ⟨S1x8192x2x32, .f32⟩
  | 106 => ⟨S1x8192x1x32, .f32⟩
  | 107 => ⟨S1x8192x1x32, .f32⟩
  | 108 => ⟨S1x8192x2x32, .f32⟩
  | 109 => ⟨S1x8192x2x32, .f32⟩
  | 110 => ⟨S1x8192x2x32, .f32⟩
  | 111 => ⟨S1x8192x2x32, .f32⟩
  | 112 => ⟨S1x8192x2x32, .f32⟩
  | 113 => ⟨S1x8192x2x32, .f32⟩
  | 114 => ⟨S1x8192x2x32, .f32⟩
  | 115 => ⟨S1x8192x2x32, .f32⟩
  | 116 => ⟨S1x8192x2x32, .f32⟩
  | 117 => ⟨S1x8192x2x32, .f32⟩
  | 118 => ⟨S1x8192x2x64, .f32⟩
  | 119 => ⟨S1x8192x2x128, .f32⟩
  | 120 => ⟨S1x64x128x2x4x128, .f32⟩
  | 121 => ⟨S_, .i32⟩
  | 122 => ⟨S_, .f32⟩
  | 123 => ⟨S1x8448x2x128, .f32⟩
  | 124 => ⟨S1x66x128x2x128, .f32⟩
  | 125 => ⟨S1x64x128x2x128, .f32⟩
  | 126 => ⟨S1x64x128x2x128, .f32⟩
  | 127 => ⟨S1x64x128x2x128, .f32⟩
  | _ => ⟨S8448x2560, .f32⟩

abbrev hbmTy0_1 (i : Nat) : BufTy := match i % 128 with
  | 0 => ⟨S1x64x384x2x128, .f32⟩
  | 1 => ⟨S_, .i32⟩
  | 2 => ⟨S_, .f32⟩
  | 3 => ⟨S1x8448x2x128, .f32⟩
  | 4 => ⟨S1x66x128x2x128, .f32⟩
  | 5 => ⟨S1x64x128x2x128, .f32⟩
  | 6 => ⟨S1x64x128x2x128, .f32⟩
  | 7 => ⟨S1x64x128x2x128, .f32⟩
  | 8 => ⟨S1x64x384x2x128, .f32⟩
  | 9 => ⟨S1x64x2x384x128x4, .f32⟩
  | 10 => ⟨S1x64x2x4x128x384, .f32⟩
  | 11 => ⟨S_, .f32⟩
  | 12 => ⟨S1x64x2x4x128x384, .f32⟩
  | 13 => ⟨S1x64x2x4x128x384, .f32⟩
  | 14 => ⟨S1x2x256x64x128x4, .f32⟩
  | 15 => ⟨S1x64x2x4x128x256, .f32⟩
  | 16 => ⟨S_, .f32⟩
  | 17 => ⟨S1x64x2x4x128x256, .f32⟩
  | 18 => ⟨S1x64x2x4x128x256, .f32⟩
  | 19 => ⟨S64, .i32⟩
  | 20 => ⟨S64x1, .i32⟩
  | 21 => ⟨S_, .i32⟩
  | 22 => ⟨S64x1, .i32⟩
  | 23 => ⟨S64x1, .i32⟩
  | 24 => ⟨S128, .i32⟩
  | 25 => ⟨S1x128, .i32⟩
  | 26 => ⟨S64x128, .i32⟩
  | 27 => ⟨S64x128, .i32⟩
  | 28 => ⟨S64x128, .i32⟩
  | 29 => ⟨S64x128x1, .i32⟩
  | 30 => ⟨S64, .i32⟩
  | 31 => ⟨S64x1, .i32⟩
  | 32 => ⟨S_, .i32⟩
  | 33 => ⟨S64x1, .i32⟩
  | 34 => ⟨S64x1, .i32⟩
  | 35 => ⟨S_, .i32⟩
  | 36 => ⟨S64x1, .i32⟩
  | 37 => ⟨S64x1, .i32⟩
  | 38 => ⟨S384, .i32⟩
  | 39 => ⟨S1x384, .i32⟩
  | 40 => ⟨S64x384, .i32⟩
  | 41 => ⟨S64x384, .i32⟩
  | 42 => ⟨S64x384, .i32⟩
  | 43 => ⟨S64x1x384, .i32⟩
  | 44 => ⟨S64x128x384, .i32⟩
  | 45 => ⟨S64x128x384, .i32⟩
  | 46 => ⟨S64x128x384, .i32⟩
  | 47 => ⟨S64x128x384, .i32⟩
  | 48 => ⟨S_, .i32⟩
  | 49 => ⟨S64x128x384, .i32⟩
  | 50 => ⟨S64x128x384, .i1⟩
  | 51 => ⟨S_, .i32⟩
  | 52 => ⟨S64x1x384, .i32⟩
  | 53 => ⟨S64x1x384, .i1⟩
  | 54 => ⟨S64x128x384, .i1⟩
  | 55 => ⟨S64x128x384, .i1⟩
  | 56 => ⟨S_, .i32⟩
  | 57 => ⟨S64x1x384, .i32⟩
  | 58 => ⟨S64x1x384, .i1⟩
  | 59 => ⟨S64x128x384, .i1⟩
  | 60 => ⟨S64x128x384, .i1⟩
  | 61 => ⟨S1x64x1x1x128x384, .i1⟩
  | 62 => ⟨S_, .f32⟩
  | 63 => ⟨S_, .f32⟩
  | 64 => ⟨S1x64x2x4x128x384, .i1⟩
  | 65 => ⟨S1x64x2x4x128x384, .f32⟩
  | 66 => ⟨S1x64x2x4x128x384, .f32⟩
  | 67 => ⟨S1x1x2x4x1x1, .f32⟩
  | 68 => ⟨S1x64x2x4x128x1, .f32⟩
  | 69 => ⟨S1x64x2x4x128x641, .f32⟩
  | 70 => ⟨S_, .f32⟩
  | 71 => ⟨S1x64x2x4x128, .f32⟩
  | 72 => ⟨S_, .f32⟩
  | 73 => ⟨S1x64x2x4x128, .f32⟩
  | 74 => ⟨S1x64x2x4x128, .f32⟩
  | 75 => ⟨S1x64x2x4x128x1, .f32⟩
  | 76 => ⟨S1x64x2x4x128x641, .f32⟩
  | 77 => ⟨S1x64x2x4x128x641, .f32⟩
  | 78 => ⟨S1x64x2x4x128x641, .f32⟩
  | 79 => ⟨S_, .f32⟩
  | 80 => ⟨S1x64x2x4x128, .f32⟩
  | 81 => ⟨S1x64x2x4x128x1, .f32⟩
  | 82 => ⟨S1x64x2x4x128x641, .f32⟩
  | 83 => ⟨S1x64x2x4x128x641, .f32⟩
  | 84 => ⟨S1x64x2x4x128x384, .f32⟩
  | 85 => ⟨S1x64x2x4x128x256, .f32⟩
  | 86 => ⟨S1x64x2x128x4x128, .f32⟩
  | 87 => ⟨S1x64x128x2x4x128, .f32⟩
  | 88 => ⟨S1x2x128x64x4x128, .f32⟩
  | 89 => ⟨S1x64x128x2x4x128, .f32⟩
  | 90 => ⟨S1x64x128x2x4x128, .f32⟩
  | 91 => ⟨S1x8192x1024, .f32⟩
  | 92 => ⟨S1x256x2x4x128, .f32⟩
  | 93 => ⟨S1x2x256x256x4, .f32⟩
  | 94 => ⟨S1x2x4x256x256, .f32⟩
  | 95 => ⟨S_, .f32⟩
  | 96 => ⟨S1x2x4x256x256, .f32⟩
  | 97 => ⟨S1x2x4x256x256, .f32⟩
  | 98 => ⟨S1x2x4x1x1, .f32⟩
  | 99 => ⟨S1x2x4x256x1, .f32⟩
  | 100 => ⟨S1x2x4x256x257, .f32⟩
  | 101 => ⟨S_, .f32⟩
  | 102 => ⟨S1x2x4x256, .f32⟩
  | 103 => ⟨S_, .f32⟩
  | 104 => ⟨S1x2x4x256, .f32⟩
  | 105 => ⟨S1x2x4x256, .f32⟩
  | 106 => ⟨S1x2x4x256x1, .f32⟩
  | 107 => ⟨S1x2x4x256x257, .f32⟩
  | 108 => ⟨S1x2x4x256x257, .f32⟩
  | 109 => ⟨S1x2x4x256x257, .f32⟩
  | 110 => ⟨S_, .f32⟩
  | 111 => ⟨S1x2x4x256, .f32⟩
  | 112 => ⟨S1x2x4x256x1, .f32⟩
  | 113 => ⟨S1x2x4x256x257, .f32⟩
  | 114 => ⟨S1x2x4x256x257, .f32⟩
  | 115 => ⟨S1x2x4x256x256, .f32⟩
  | 116 => ⟨S1x2x128x4x256, .f32⟩
  | 117 => ⟨S1x256x2x4x128, .f32⟩
  | 118 => ⟨S1x256x1024, .f32⟩
  | 119 => ⟨S256x1024, .f32⟩
  | 120 => ⟨S8192x1024, .f32⟩
  | 121 => ⟨S8448x1024, .f32⟩
  | 122 => ⟨S8448x1024, .bf16⟩
  | 123 => ⟨S1x16x2048x1408, .f32⟩
  | 124 => ⟨S16x2048x1408, .f32⟩
  | 125 => ⟨S32768x1408, .f32⟩
  | 126 => ⟨S32768x1408, .bf16⟩
  | _ => ⟨S8448x2560, .f32⟩

abbrev hbmTy (i : Nat) : BufTy := match i / 128 with
  | 0 => hbmTy0_0 i
  | 1 => hbmTy0_1 i
  | _ => ⟨S8448x2560, .f32⟩

abbrev bufTy : (tb : Table) → Fin (tcTables nBuf tb) → BufTy
  | .hbm, ⟨i, _⟩ => hbmTy i
  | _, _ => ⟨S8448x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_c : Ref sig .tc := ⟨.hbm, 121, rfl⟩
abbrev main_call0_v0 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_c_3 : Ref sig .tc := ⟨.hbm, 129, rfl⟩
abbrev main_call1_v0 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_cst_4 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_cst_5 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_c_6 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_c_7 : Ref sig .tc := ⟨.hbm, 160, rfl⟩
abbrev main_v146 : Ref sig .tc := ⟨.hbm, 161, rfl⟩
abbrev main_v147 : Ref sig .tc := ⟨.hbm, 162, rfl⟩
abbrev main_c_8 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_c_9 : Ref sig .tc := ⟨.hbm, 176, rfl⟩
abbrev main_v160 : Ref sig .tc := ⟨.hbm, 177, rfl⟩
abbrev main_v161 : Ref sig .tc := ⟨.hbm, 178, rfl⟩
abbrev main_c_10 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_c_11 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_cst_12 : Ref sig .tc := ⟨.hbm, 190, rfl⟩
abbrev main_call2_v0 : Ref sig .tc := ⟨.hbm, 191, rfl⟩
abbrev main_call2_v1 : Ref sig .tc := ⟨.hbm, 192, rfl⟩
abbrev main_call2_v2 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_cst_13 : Ref sig .tc := ⟨.hbm, 198, rfl⟩
abbrev main_v175 : Ref sig .tc := ⟨.hbm, 199, rfl⟩
abbrev main_cst_14 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_cst_15 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_cst_16 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_cst_17 : Ref sig .tc := ⟨.hbm, 229, rfl⟩
abbrev main_v202 : Ref sig .tc := ⟨.hbm, 230, rfl⟩
abbrev main_cst_18 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_cst_19 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩

abbrev nD : Nat := 1
abbrev τ : Topo := Topo.v7x

variable {F : FTy → Type} [FloatOps F]
-- ==== Kernel2.lean ====
abbrev S419840x128 : Shape := ⟨2, ![419840, 128]⟩
abbrev S82 : Shape := ⟨1, ![82]⟩
abbrev S1 : Shape := ⟨1, ![1]⟩
abbrev S16x2048x1408 : Shape := ⟨3, ![16, 2048, 1408]⟩
abbrev S16x1408x2048 : Shape := ⟨3, ![16, 1408, 2048]⟩
abbrev S5120x128 : Shape := ⟨2, ![5120, 128]⟩
abbrev S1x2048x1408 : Shape := ⟨3, ![1, 2048, 1408]⟩
abbrev S1x1408x2048 : Shape := ⟨3, ![1, 1408, 2048]⟩
abbrev S256x1408 : Shape := ⟨2, ![256, 1408]⟩
abbrev S256x128 : Shape := ⟨2, ![256, 128]⟩
abbrev S256x2048 : Shape := ⟨2, ![256, 2048]⟩
abbrev S1x2048x512 : Shape := ⟨3, ![1, 2048, 512]⟩
abbrev S2048x512 : Shape := ⟨2, ![2048, 512]⟩
abbrev S256x512 : Shape := ⟨2, ![256, 512]⟩
abbrev S1x2048x384 : Shape := ⟨3, ![1, 2048, 384]⟩
abbrev S2048x384 : Shape := ⟨2, ![2048, 384]⟩
abbrev S256x384 : Shape := ⟨2, ![256, 384]⟩
abbrev S1x1408x512 : Shape := ⟨3, ![1, 1408, 512]⟩
abbrev S1408x512 : Shape := ⟨2, ![1408, 512]⟩

abbrev nBuf : Space → Nat
  | .hbm => 5
  | .vmem => 11
  | .smem => 2
  | _ => 0

abbrev bufTy : (tb : Table) → Fin (tcTables nBuf tb) → BufTy
  | .hbm, ⟨0, _⟩ => ⟨S419840x128, .f32⟩
  | .hbm, ⟨1, _⟩ => ⟨S16x2048x1408, .bf16⟩
  | .hbm, ⟨2, _⟩ => ⟨S16x2048x1408, .bf16⟩
  | .hbm, ⟨3, _⟩ => ⟨S16x1408x2048, .bf16⟩
  | .hbm, ⟨4, _⟩ => ⟨S419840x128, .f32⟩
  | .local _ .vmem, ⟨0, _⟩ => ⟨S5120x128, .f32⟩
  | .local _ .vmem, ⟨1, _⟩ => ⟨S5120x128, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S5120x128, .f32⟩
  | .local _ .vmem, ⟨9, _⟩ => ⟨S5120x128, .f32⟩
  | .local _ .vmem, ⟨10, _⟩ => ⟨S256x1408, .bf16⟩
  | .local _ .smem, ⟨0, _⟩ => ⟨S82, .i32⟩
  | .local _ .smem, ⟨1, _⟩ => ⟨S1, .i32⟩
  | _, _ => ⟨S419840x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![82], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5120x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S419840x128 : Shape := ⟨2, ![419840, 128]⟩
abbrev S82 : Shape := ⟨1, ![82]⟩
abbrev S1 : Shape := ⟨1, ![1]⟩
abbrev S16x2048x1408 : Shape := ⟨3, ![16, 2048, 1408]⟩
abbrev S16x1408x2048 : Shape := ⟨3, ![16, 1408, 2048]⟩
abbrev S20992x20x128 : Shape := ⟨3, ![20992, 20, 128]⟩
abbrev S20992x16x128 : Shape := ⟨3, ![20992, 16, 128]⟩
abbrev S82x256x2048 : Shape := ⟨3, ![82, 256, 2048]⟩
abbrev S82x1 : Shape := ⟨2, ![82, 1]⟩
abbrev S82x2048x1408 : Shape := ⟨3, ![82, 2048, 1408]⟩
abbrev S82x1408x2048 : Shape := ⟨3, ![82, 1408, 2048]⟩
abbrev S82x256x1408 : Shape := ⟨3, ![82, 256, 1408]⟩
abbrev S_ : Shape := ⟨0, ![]⟩
abbrev S82x1x1 : Shape := ⟨3, ![82, 1, 1]⟩
abbrev S20992x4x128 : Shape := ⟨3, ![20992, 4, 128]⟩

abbrev nBuf : Space → Nat
  | .hbm => 45
  | .vmem => 0
  | .smem => 0
  | _ => 0

abbrev bufTy : (tb : Table) → Fin (tcTables nBuf tb) → BufTy
  | .hbm, ⟨0, _⟩ => ⟨S419840x128, .f32⟩
  | .hbm, ⟨1, _⟩ => ⟨S82, .i32⟩
  | .hbm, ⟨2, _⟩ => ⟨S1, .i32⟩
  | .hbm, ⟨3, _⟩ => ⟨S16x2048x1408, .bf16⟩
  | .hbm, ⟨4, _⟩ => ⟨S16x2048x1408, .bf16⟩
  | .hbm, ⟨5, _⟩ => ⟨S16x1408x2048, .bf16⟩
  | .hbm, ⟨6, _⟩ => ⟨S20992x20x128, .f32⟩
  | .hbm, ⟨7, _⟩ => ⟨S20992x16x128, .f32⟩
  | .hbm, ⟨8, _⟩ => ⟨S82x256x2048, .f32⟩
  | .hbm, ⟨9, _⟩ => ⟨S16x2048x1408, .f32⟩
  | .hbm, ⟨10, _⟩ => ⟨S82x1, .i32⟩
  | .hbm, ⟨11, _⟩ => ⟨S82x2048x1408, .f32⟩
  | .hbm, ⟨12, _⟩ => ⟨S16x2048x1408, .f32⟩
  | .hbm, ⟨13, _⟩ => ⟨S82x1, .i32⟩
  | .hbm, ⟨14, _⟩ => ⟨S82x2048x1408, .f32⟩
  | .hbm, ⟨15, _⟩ => ⟨S16x1408x2048, .f32⟩
  | .hbm, ⟨16, _⟩ => ⟨S82x1, .i32⟩
  | .hbm, ⟨17, _⟩ => ⟨S82x1408x2048, .f32⟩
  | .hbm, ⟨18, _⟩ => ⟨S82x256x1408, .f32⟩
  | .hbm, ⟨19, _⟩ => ⟨S82x256x1408, .f32⟩
  | .hbm, ⟨20, _⟩ => ⟨S82x256x1408, .f32⟩
  | .hbm, ⟨21, _⟩ => ⟨S_, .f32⟩
  | .hbm, ⟨22, _⟩ => ⟨S82x256x1408, .f32⟩
  | .hbm, ⟨23, _⟩ => ⟨S82x256x1408, .f32⟩
  | .hbm, ⟨24, _⟩ => ⟨S_, .f32⟩
  | .hbm, ⟨25, _⟩ => ⟨S82x256x1408, .f32⟩
  | .hbm, ⟨26, _⟩ => ⟨S82x256x1408, .f32⟩
  | .hbm, ⟨27, _⟩ => ⟨S82x256x1408, .f32⟩
  | .hbm, ⟨28, _⟩ => ⟨S82x256x1408, .f32⟩
  | .hbm, ⟨29, _⟩ => ⟨S82x256x1408, .f32⟩
  | .hbm, ⟨30, _⟩ => ⟨S82x256x2048, .f32⟩
  | .hbm, ⟨31, _⟩ => ⟨S82, .i32⟩
  | .hbm, ⟨32, _⟩ => ⟨S82, .i32⟩
  | .hbm, ⟨33, _⟩ => ⟨S82, .i1⟩
  | .hbm, ⟨34, _⟩ => ⟨S82x1x1, .i1⟩
  | .hbm, ⟨35, _⟩ => ⟨S_, .f32⟩
  | .hbm, ⟨36, _⟩ => ⟨S_, .f32⟩
  | .hbm, ⟨37, _⟩ => ⟨S82x256x2048, .i1⟩
  | .hbm, ⟨38, _⟩ => ⟨S82x256x2048, .f32⟩
  | .hbm, ⟨39, _⟩ => ⟨S82x256x2048, .f32⟩
  | .hbm, ⟨40, _⟩ => ⟨S20992x16x128, .f32⟩
  | .hbm, ⟨41, _⟩ => ⟨S_, .f32⟩
  | .hbm, ⟨42, _⟩ => ⟨S20992x4x128, .f32⟩
  | .hbm, ⟨43, _⟩ => ⟨S20992x20x128, .f32⟩
  | .hbm, ⟨44, _⟩ => ⟨S419840x128, .f32⟩
  | _, _ => ⟨S419840x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_call3_v0 : Ref sig .tc := ⟨.hbm, 19, rfl⟩
abbrev main_call3_v1 : Ref sig .tc := ⟨.hbm, 20, rfl⟩
abbrev main_call3_cst : Ref sig .tc := ⟨.hbm, 21, rfl⟩
abbrev main_call3_v2 : Ref sig .tc := ⟨.hbm, 22, rfl⟩
abbrev main_call3_v3 : Ref sig .tc := ⟨.hbm, 23, rfl⟩
abbrev main_call3_cst_0 : Ref sig .tc := ⟨.hbm, 24, rfl⟩
abbrev main_call3_v4 : Ref sig .tc := ⟨.hbm, 25, rfl⟩
abbrev main_call3_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_call4_v0 : Ref sig .tc := ⟨.hbm, 36, rfl⟩
abbrev main_call4_v1 : Ref sig .tc := ⟨.hbm, 37, rfl⟩
abbrev main_call4_v2 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.Softmax.lean ====
/-
  Softmax attention over the extended reals with a sink: the weights of one row of scores, their
  denominator, and the three facts that the attention kernel and its reference differ by — where the
  division stands, that a key whose score is −∞ has no weight, and where the sink is summed.
-/
module

public import Idealize.ShloMosaic.PureOps.Ideal.Laws
public import Idealize.ShloMosaic.Lib.Pointwise

@[expose] public section

noncomputable section

namespace Cert.Row

open Idealize.ShloMosaic

variable {ι : Type} [Fintype ι]

/-- The greatest of a row's scores and of the sink. -/
def top (s : ι → EReal) (t : EReal) : EReal := max (Finset.univ.sup s) t

/-- The sum of the row's exponentials, the sink's among them. -/
def den (s : ι → EReal) (t : EReal) : EReal :=
  (∑ j, Ideal.exp (s j - top s t)) + Ideal.exp (t - top s t)

/-- The row's output: the values weighted by the exponentials, over their sum. -/
def out (s : ι → EReal) (t : EReal) (v : ι → EReal) : EReal :=
  Ideal.div (∑ j, Ideal.exp (s j - top s t) * v j) (den s t)

/-- An exponential is not negative. -/
theorem exp_nonneg (x : EReal) : 0 ≤ Ideal.exp x := by
  induction x with
  | bot => exact le_refl _
  | top => exact le_top
  | coe r => exact EReal.coe_nonneg.2 (Real.exp_pos r).le

/-- An exponential is zero at −∞ alone. -/
theorem exp_ne_zero {x : EReal} (h : x ≠ ⊥) : Ideal.exp x ≠ 0 := by
  induction x with
  | bot => exact absurd rfl h
  | top => exact EReal.top_ne_zero
  | coe r => exact EReal.coe_ne_zero.2 (Real.exp_pos r).ne'

/-- The exponential of −∞ is zero. -/
theorem exp_bot : Ideal.exp ⊥ = 0 := rfl

/-- −∞ less anything is −∞. -/
theorem bot_sub (x : EReal) : (⊥ : EReal) - x = ⊥ := by
  rw [sub_eq_add_neg]; exact EReal.bot_add _

/-- With a sink that is not −∞ and a row without +∞ the denominator is not zero. -/
theorem den_ne_zero (s : ι → EReal) (t : EReal) (ht : t ≠ ⊥) (hm : top s t ≠ ⊤) : den s t ≠ 0 := by
  have h1 : Ideal.exp (t - top s t) ≠ 0 := by
    apply exp_ne_zero
    rw [sub_eq_add_neg, Ne, EReal.add_eq_bot_iff, EReal.neg_eq_bot_iff]
    tauto
  have h2 : 0 < Ideal.exp (t - top s t) := lt_of_le_of_ne (exp_nonneg _) h1.symm
  have h3 : 0 ≤ ∑ j, Ideal.exp (s j - top s t) := Finset.sum_nonneg fun j _ => exp_nonneg _
  exact (lt_of_lt_of_le h2 (le_add_of_nonneg_left h3)).ne'

/-- The denominator is not negative. -/
theorem den_nonneg (s : ι → EReal) (t : EReal) : 0 ≤ den s t :=
  add_nonneg (Finset.sum_nonneg fun j _ => exp_nonneg _) (exp_nonneg _)

/-- A sum times a factor that is neither negative nor +∞ is the sum of the products. -/
theorem sum_mul_of_nonneg {κ : Type} (S : Finset κ) (f : κ → EReal) (c : EReal) (h0 : 0 ≤ c) (h1 : c ≠ ⊤) :
    (∑ j ∈ S, f j) * c = ∑ j ∈ S, f j * c := by
  classical
  induction S using Finset.induction_on with
  | empty => simp
  | insert a S ha ih =>
    rw [Finset.sum_insert ha, Finset.sum_insert ha, EReal.right_distrib_of_nonneg_of_ne_top h0 h1, ih]

/-- Dividing every weight by the denominator, or their weighted sum, is the same. -/
theorem sum_div (s : ι → EReal) (t : EReal) (v : ι → EReal) (ht : t ≠ ⊥) (hm : top s t ≠ ⊤) :
    ∑ j, Ideal.div (Ideal.exp (s j - top s t)) (den s t) * v j = out s t v := by
  have hd := den_ne_zero s t ht hm
  have hi : (den s t)⁻¹ ≠ ⊤ := by
    generalize den s t = d
    induction d with
    | bot => rw [EReal.inv_bot]; exact EReal.zero_ne_top
    | top => rw [EReal.inv_top]; exact EReal.zero_ne_top
    | coe r => rw [← EReal.coe_inv]; exact EReal.coe_ne_top _
  unfold out Ideal.div
  simp only [hd, if_false]
  rw [sum_mul_of_nonneg _ _ _ (EReal.inv_nonneg_of_nonneg (den_nonneg s t)) hi]
  exact Finset.sum_congr rfl fun j _ => by rw [mul_assoc, mul_comm _ (v j), ← mul_assoc]

/-- The output does not depend on the values of keys whose score is −∞. -/
theorem out_congr {s s' : ι → EReal} {t t' : EReal} {v v' : ι → EReal} (hs : ∀ j, s j = s' j) (ht : t = t')
    (hv : ∀ j, s j = ⊥ ∨ v j = v' j) : out s t v = out s' t' v' := by
  obtain rfl : s = s' := funext hs
  subst ht
  unfold out
  congr 1
  refine Finset.sum_congr rfl fun j _ => ?_
  rcases hv j with h | h
  · rw [h, bot_sub, exp_bot, zero_mul, zero_mul]
  · rw [h]

/-- A row whose first `a` scores are −∞ is the row of the others. -/
theorem out_tail {a b n : ℕ} (hn : a + b = n) (s : Fin n → EReal) (t : EReal) (v : Fin n → EReal)
    (h : ∀ j : Fin n, j.val < a → s j = ⊥) :
    out s t v = out (fun j : Fin b => s ⟨a + j.val, by omega⟩) t (fun j : Fin b => v ⟨a + j.val, by omega⟩) := by
  subst hn
  have hc : ∀ j : Fin a, s (Fin.castAdd b j) = ⊥ := fun j => h _ j.isLt
  have hsup : Finset.univ.sup s = Finset.univ.sup fun j : Fin b => s (Fin.natAdd a j) := by
    apply le_antisymm
    · refine Finset.sup_le fun j _ => ?_
      refine Fin.addCases (fun i => ?_) (fun i => ?_) j
      · rw [hc]; exact bot_le
      · exact Finset.le_sup (f := fun j : Fin b => s (Fin.natAdd a j)) (Finset.mem_univ i)
    · exact Finset.sup_le fun j _ => Finset.le_sup (f := s) (Finset.mem_univ (Fin.natAdd a j))
  have htop : top s t = top (fun j : Fin b => s (Fin.natAdd a j)) t := by unfold top; rw [hsup]
  show out s t v = out (fun j : Fin b => s (Fin.natAdd a j)) t (fun j : Fin b => v (Fin.natAdd a j))
  unfold out den
  rw [← htop, Fin.sum_univ_add, Fin.sum_univ_add]
  simp only [hc, bot_sub, exp_bot, zero_mul, Finset.sum_const_zero, zero_add]

/-- A fold of `max` from −∞ is the supremum. -/
theorem fold_max (s : ι → EReal) : Finset.univ.fold max ⊥ s = Finset.univ.sup s := rfl

/-- The greatest of a row with the sink as its last entry. -/
theorem sup_snoc {n : ℕ} (x : Fin (n + 1) → EReal) (s : Fin n → EReal) (t : EReal) (hx : ∀ j : Fin n, x j.castSucc = s j)
    (hl : x (Fin.last n) = t) : Finset.univ.sup x = top s t := by
  unfold top
  apply le_antisymm
  · refine Finset.sup_le fun j _ => ?_
    refine Fin.lastCases ?_ (fun i => ?_) j
    · rw [hl]; exact le_max_right _ _
    · rw [hx]; exact le_max_of_le_left (Finset.le_sup (f := s) (Finset.mem_univ i))
  · refine max_le (Finset.sup_le fun j _ => ?_) ?_
    · rw [← hx]; exact Finset.le_sup (f := x) (Finset.mem_univ _)
    · rw [← hl]; exact Finset.le_sup (f := x) (Finset.mem_univ _)

/-- The denominator of a row with the sink as its last entry. -/
theorem sum_snoc {n : ℕ} (x : Fin (n + 1) → EReal) (s : Fin n → EReal) (t : EReal) (hx : ∀ j : Fin n, x j.castSucc = s j)
    (hl : x (Fin.last n) = t) : ∑ k, Ideal.exp (x k - top s t) = den s t := by
  rw [Fin.sum_univ_castSucc]
  unfold den
  simp only [hx, hl]

/-- The row's greatest entry is not +∞ where no score is and the sink is not. -/
theorem top_ne_top (s : ι → EReal) (t : EReal) (hs : ∀ j, s j ≠ ⊤) (ht : t ≠ ⊤) : top s t ≠ ⊤ := by
  unfold top
  refine (max_lt ?_ (lt_top_iff_ne_top.2 ht)).ne
  exact (Finset.sup_lt_iff bot_lt_top).2 fun j _ => lt_top_iff_ne_top.2 (hs j)

/-! ## Finite extended reals -/

/-- Neither infinity. -/
def Fin' (x : EReal) : Prop := ∃ r : ℝ, x = r

theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.neg {x : EReal} (hx : Fin' x) : Fin' (-x) := by
  obtain ⟨a, rfl⟩ := hx; exact ⟨-a, (EReal.coe_neg a).symm⟩
theorem Fin'.sum {κ : Type} (S : Finset κ) (f : κ → EReal) (h : ∀ j, Fin' (f j)) : Fin' (∑ j ∈ S, f j) := by
  classical
  induction S using Finset.induction_on with
  | empty => exact ⟨0, by simp⟩
  | insert a S ha ih => rw [Finset.sum_insert ha]; exact (h a).add ih
theorem Fin'.cos {x : EReal} (hx : Fin' x) : Fin' (Ideal.cos x) := by
  obtain ⟨a, rfl⟩ := hx; exact ⟨Real.cos a, rfl⟩
theorem Fin'.sin {x : EReal} (hx : Fin' x) : Fin' (Ideal.sin x) := by
  obtain ⟨a, rfl⟩ := hx; exact ⟨Real.sin a, rfl⟩
theorem Fin'.of_abs {x : EReal} (h : max x (-x) < ⊤) : Fin' x := by
  induction x with
  | bot => simp at h
  | top => simp at h
  | coe r => exact ⟨r, rfl⟩

end Cert.Row

end
-- ==== Proof.Rope.lean ====
/-
  The rotary tables: the angle of a token's row or column in the 64 × 64 grid of latent tokens at a frequency,
  its cosine and signed sine at a lane of a head, and that every entry is a real number.
-/
module

public import proofs.«01_k».proof.Proof.Softmax
public import Idealize.ShloMosaic.Lib.Pointwise

@[expose] public section

noncomputable section

namespace Cert.Row

open Idealize.ShloMosaic

/-- Frequency `k` of 32. -/
def freq (k : ℕ) : EReal :=
  Ideal.pow (Ideal.ofBits .f32 0x461C4000#32)
    (Ideal.div (-(Ideal.ofBits .f32 0x40000000#32 * FloatOps.sitofp (F := Ideal) .f32 (BitVec.ofNat 32 k))) (Ideal.ofBits .f32 0x42800000#32))

/-- The angle of place `p` at frequency `k`. -/
def ang (p k : ℕ) : EReal := FloatOps.sitofp (F := Ideal) .f32 (BitVec.ofNat 32 p) * freq k

/-- The place of latent token `t` that lane `l` turns by: its row for the first 64 lanes, its column for the rest. -/
def place (t : ℕ) (l : Fin 128) : ℕ := if l.val < 64 then t / 64 else t % 64

/-- The frequency of a lane. -/
def lane (l : Fin 128) : ℕ := l.val % 32

/-- The cosine a row of the tables holds at a lane: 1 for the 256 context rows. -/
def cosT (r : ℕ) (l : Fin 128) : EReal := if r < 256 then 1 else Ideal.cos (ang (place (r - 256) l) (lane l))

/-- The signed sine: 0 for the context rows, negative in the first half of each half head. -/
def sinT (r : ℕ) (l : Fin 128) : EReal :=
  if r < 256 then 0 else if l.val % 64 < 32 then -Ideal.sin (ang (place (r - 256) l) (lane l)) else Ideal.sin (ang (place (r - 256) l) (lane l))

/-- A word whose exponent is not all ones holds a real number. -/
theorem fin_word (w : BitVec 32) (h : (w.extractLsb' 23 8).toNat ≠ 2 ^ 8 - 1) : Fin' (Ideal.ofBits .f32 w) := by
  unfold Ideal.ofBits Ideal.ieee
  simp only
  rw [if_neg h]
  split
  · exact ⟨_, rfl⟩
  · exact ⟨_, rfl⟩

theorem word_base : Ideal.ofBits .f32 0x461C4000#32 = ((10000 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem fin_scale : Fin' (Ideal.ofBits .f32 1035273459#32) := by
  exact fin_word _ (by decide)

theorem fin_freq (k : ℕ) : Fin' (freq k) := by
  unfold freq
  rw [word_64, word_base]
  have hx : Fin' (-(Ideal.ofBits .f32 0x40000000#32 * FloatOps.sitofp (F := Ideal) .f32 (BitVec.ofNat 32 k))) :=
    ((fin_word _ (by decide)).mul ⟨_, rfl⟩).neg
  obtain ⟨x, hx⟩ := hx
  rw [hx]
  refine ⟨Real.rpow 10000 (x * 64⁻¹), ?_⟩
  have h64 : ((64 : ℝ) : EReal) ≠ 0 := by
    rw [← EReal.coe_zero]
    exact fun h => absurd (EReal.coe_injective h) (by norm_num)
  unfold Ideal.div
  rw [if_neg h64, ← EReal.coe_inv, ← EReal.coe_mul]
  rfl

theorem fin_ang (p k : ℕ) : Fin' (ang p k) := Fin'.mul ⟨_, rfl⟩ (fin_freq k)

theorem fin_cosT (r : ℕ) (l : Fin 128) : Fin' (cosT r l) := by
  unfold cosT
  split
  · exact ⟨1, rfl⟩
  · exact (fin_ang _ _).cos

theorem fin_sinT (r : ℕ) (l : Fin 128) : Fin' (sinT r l) := by
  unfold sinT
  split
  · exact ⟨0, rfl⟩
  · split
    · exact (fin_ang _ _).sin.neg
    · exact (fin_ang _ _).sin

end Cert.Row

end
-- ==== Proof.Block.lean ====
/-
  The attention kernel's block at one grid point: what the run leaves in the output block, in one
  vocabulary for all eight heads (`rotated`, `narrow`, `stackQ`, `stackK`, `sinks`, `heads`), and the same
  read at an index.
-/
module

public import proofs.«01_k».proof.Proof.Gen.KernelIdeal.Value
public import proofs.«01_k».proof.Proof.Softmax
public import Idealize.ShloMosaic.Lib.Pointwise
public import Idealize.ShloMosaic.Lib.WritesUnit
public import Idealize.ShloMosaic.Lib.Pipeline.ValueKit.Tiles

@[expose] public section

set_option maxRecDepth 16384

noncomputable section

namespace Cert.KernelIdeal.Blk

open Cert.KernelIdeal Cert.KernelIdeal.Gen Idealize.ShloMosaic Idealize.ShloMosaic.TcCoe Idealize.SL.Sem
open Idealize.ShloMosaic.Pipeline (Dat)

/-! ## Pieces of a buffer read at an index -/

section
variable {S : Shape} {e : EltTy} {Val : EltTy → Type} [∀ e, Nonempty (Val e)]

/-- An index under the last store's rectangle reads its payload. -/
theorem canon_hit (off size : Fin S.rank → Nat) (inb : ∀ a, off a + size a ≤ S.size a)
    (w : (Rect.unit off size inb).shape.Idx → Val e) (L : List (View.Piece Val S e)) (y : S.Idx)
    (x : (Rect.unit off size inb).shape.Idx) (h : ∀ a, (y a : Nat) = off a + x a) :
    View.canon ((⟨Rect.unit off size inb, w⟩ : View.Piece Val S e) :: L) y = w x := by
  obtain rfl : y = (Rect.unit off size inb).emb x :=
    funext fun a => Fin.ext ((h a).trans (Rect.idx_unit_val off size inb x a).symm)
  exact View.canon_cons_emb _ w L x

/-- An index outside the last store's rectangle reads the earlier stores. -/
theorem canon_miss (off size : Fin S.rank → Nat) (inb : ∀ a, off a + size a ≤ S.size a)
    (w : (Rect.unit off size inb).shape.Idx → Val e) (L : List (View.Piece Val S e)) (y : S.Idx) (a : Fin S.rank)
    (h : (y a : Nat) < off a ∨ off a + size a ≤ y a) :
    View.canon ((⟨Rect.unit off size inb, w⟩ : View.Piece Val S e) :: L) y = View.canon L y := by
  refine View.canon_cons_of_not_mem _ L fun hm => ?_
  have h' := (Rect.mem_set_unit (inb := inb)).1 hm a
  omega

/-- The same two facts for a rectangle of a matrix, by coordinates. -/
theorem canon_hit2 {m n h l : Nat} {o0 o1 : Nat} (inb : ∀ a, (![o0, o1] : Fin 2 → Nat) a + (![h, l] : Fin 2 → Nat) a ≤ (⟨2, ![m, n]⟩ : Shape).size a)
    (w : Shape.Idx ⟨2, ![h, l]⟩ → Val e) (L : List (View.Piece Val ⟨2, ![m, n]⟩ e)) (y : Shape.Idx ⟨2, ![m, n]⟩) (p : Fin h) (q : Fin l)
    (h0 : (y 0).val = o0 + p.val) (h1 : (y 1).val = o1 + q.val) :
    View.canon ((⟨Rect.unit (s := ⟨2, ![m, n]⟩) ![o0, o1] ![h, l] inb, w⟩ : View.Piece Val ⟨2, ![m, n]⟩ e) :: L) y = w (ix2 p q) :=
  canon_hit (S := ⟨2, ![m, n]⟩) _ _ inb w L y (ix2 p q) fun a => match a with | ⟨0, _⟩ => h0 | ⟨1, _⟩ => h1

theorem canon_miss2 {m n h l : Nat} {o0 o1 : Nat} (inb : ∀ a, (![o0, o1] : Fin 2 → Nat) a + (![h, l] : Fin 2 → Nat) a ≤ (⟨2, ![m, n]⟩ : Shape).size a)
    (w : Shape.Idx ⟨2, ![h, l]⟩ → Val e) (L : List (View.Piece Val ⟨2, ![m, n]⟩ e)) (y : Shape.Idx ⟨2, ![m, n]⟩)
    (hy : (y 0).val < o0 ∨ (y 1).val < o1) :
    View.canon ((⟨Rect.unit (s := ⟨2, ![m, n]⟩) ![o0, o1] ![h, l] inb, w⟩ : View.Piece Val ⟨2, ![m, n]⟩ e) :: L) y = View.canon L y := by
  rcases hy with hy | hy
  · exact canon_miss (S := ⟨2, ![m, n]⟩) _ _ inb w L y 0 (Or.inl hy)
  · exact canon_miss (S := ⟨2, ![m, n]⟩) _ _ inb w L y 1 (Or.inl hy)

end

variable {F : FTy → Type} [FloatOps F] [Named F]

/-! ## The vocabulary -/

/-- A 128 × 128 block rotated by its angles' cosines and signed sines. -/
def rotated (x co si : FVec F S128x128 .f32) : FVec F S128x128 .bf16 := k0_pay20 (k0_pay19 x co si)

/-- The block row of each query row (0 to 3). -/
def rowHead : IVec S512x1 32 := k0_pay6 (iota Kind.tc S512x1 32 [0] iota_S512x1_d0_w32) 128#32 k0_pay5 0#32

/-- The column of sinks: the sink of each query row's head. -/
def sinks (s0 s1 s2 s3 : Elt F .f32) : FVec F S512x1 .f32 :=
  k0_pay36 rowHead (k0_pay33 rowHead (k0_pay30 rowHead (k0_pay28 rowHead k0_pay26 s0) s1) s2) s3

/-- Four blocks of query rows, one under the other. -/
def stackQ {e : EltTy} (a b c d : Vec F S128x128 e) : Vec F S512x128 e := fun j =>
  if h0 : (j 0 : Nat) < 128 then a (ix2 ⟨j 0, h0⟩ (j 1))
  else if h1 : (j 0 : Nat) - 128 < 128 then b (ix2 ⟨(j 0 : Nat) - 128, h1⟩ (j 1))
  else if h2 : (j 0 : Nat) - 256 < 128 then c (ix2 ⟨(j 0 : Nat) - 256, h2⟩ (j 1))
  else if h3 : (j 0 : Nat) - 384 < 128 then d (ix2 ⟨(j 0 : Nat) - 384, h3⟩ (j 1))
  else a (ix2 0 (j 1))

/-- Three blocks of 128 rows and one of 256, one under the other. -/
def stackK {e : EltTy} (a b c : Vec F S128x128 e) (d : Vec F S256x128 e) : Vec F S640x128 e := fun j =>
  if h0 : (j 0 : Nat) < 128 then a (ix2 ⟨j 0, h0⟩ (j 1))
  else if h1 : (j 0 : Nat) - 128 < 128 then b (ix2 ⟨(j 0 : Nat) - 128, h1⟩ (j 1))
  else if h2 : (j 0 : Nat) - 256 < 128 then c (ix2 ⟨(j 0 : Nat) - 256, h2⟩ (j 1))
  else if h3 : (j 0 : Nat) - 384 < 256 then d (ix2 ⟨(j 0 : Nat) - 384, h3⟩ (j 1))
  else a (ix2 0 (j 1))

/-- The outputs of the four query heads that share one key-value head, from the sinks, the queries, the keys and the values. -/
def heads (i : grid0.Coords) (t : FVec F S512x1 .f32) (q : Vec F S512x128 .bf16) (k v : Vec F S640x128 .bf16) : FVec F S512x128 .f32 :=
  k0_pay38 (k0_pay4 i) t (k0_pay37 q k) (Scalar.ofBits .f32 0x3DB504F3#32) v

/-- Query rows stored block by block and read back whole. -/
theorem readCov_stackQ {sig : RefSig} {κ : Kind} {sp : Space} (w : View sig κ sp S512x128 .bf16)
    (a b c d : Vec F S128x128 .bf16) (L : List (View.Piece (Elt F) S512x128 .bf16)) (i0 i1 i2 i3 i4) :
    w.readCov ((⟨Rect.unit (s := S512x128) ![384, 0] ![128, 128] i3, d⟩ : View.Piece (Elt F) S512x128 .bf16) ::
      ⟨Rect.unit (s := S512x128) ![256, 0] ![128, 128] i2, c⟩ :: ⟨Rect.unit (s := S512x128) ![128, 0] ![128, 128] i1, b⟩ ::
      ⟨Rect.unit (s := S512x128) ![0, 0] ![128, 128] i0, a⟩ :: L) (Rect.unit (s := S512x128) ![0, 0] ![512, 128] i4).toLoadRect
    = stackQ a b c d := by
  rw [View.readCov_eq_canon']
  funext (j : S512x128.Idx)
  have hj : (Rect.unit (s := S512x128) ![0, 0] ![512, 128] i4).toLoadRect.idx j = j :=
    funext fun x => Fin.ext (by
      have := Rect.idx_unit_val (s := S512x128) ![0, 0] ![512, 128] i4 j x
      fin_cases x <;> simpa using this)
  rw [hj]
  clear hj
  have hb : (j 0 : Nat) < 512 := (j 0).isLt
  show _ = stackQ a b c d j
  unfold stackQ
  by_cases h3 : 384 ≤ (j 0 : Nat)
  · rw [dif_neg (by omega), dif_neg (by omega), dif_neg (by omega), dif_pos (by omega)]
    exact canon_hit2 _ _ _ _ ⟨(j 0 : Nat) - 384, by omega⟩ (j 1) (by dsimp only; omega) (by omega)
  rw [canon_miss2 _ _ _ _ (Or.inl (by omega))]
  by_cases h2 : 256 ≤ (j 0 : Nat)
  · rw [dif_neg (by omega), dif_neg (by omega), dif_pos (by omega)]
    exact canon_hit2 _ _ _ _ ⟨(j 0 : Nat) - 256, by omega⟩ (j 1) (by dsimp only; omega) (by omega)
  rw [canon_miss2 _ _ _ _ (Or.inl (by omega))]
  by_cases h1 : 128 ≤ (j 0 : Nat)
  · rw [dif_neg (by omega), dif_pos (by omega)]
    exact canon_hit2 _ _ _ _ ⟨(j 0 : Nat) - 128, by omega⟩ (j 1) (by dsimp only; omega) (by omega)
  rw [canon_miss2 _ _ _ _ (Or.inl (by omega)), dif_pos (by omega)]
  exact canon_hit2 _ _ _ _ ⟨(j 0 : Nat), by omega⟩ (j 1) (by dsimp only; omega) (by omega)

/-- Keys or values stored block by block and read back whole. -/
theorem readCov_stackK {sig : RefSig} {κ : Kind} {sp : Space} (w : View sig κ sp S640x128 .bf16)
    (a b c : Vec F S128x128 .bf16) (d : Vec F S256x128 .bf16) (L : List (View.Piece (Elt F) S640x128 .bf16)) (i0 i1 i2 i3 i4) :
    w.readCov ((⟨Rect.unit (s := S640x128) ![384, 0] ![256, 128] i3, d⟩ : View.Piece (Elt F) S640x128 .bf16) ::
      ⟨Rect.unit (s := S640x128) ![256, 0] ![128, 128] i2, c⟩ :: ⟨Rect.unit (s := S640x128) ![128, 0] ![128, 128] i1, b⟩ ::
      ⟨Rect.unit (s := S640x128) ![0, 0] ![128, 128] i0, a⟩ :: L) (Rect.unit (s := S640x128) ![0, 0] ![640, 128] i4).toLoadRect
    = stackK a b c d := by
  rw [View.readCov_eq_canon']
  funext (j : S640x128.Idx)
  have hj : (Rect.unit (s := S640x128) ![0, 0] ![640, 128] i4).toLoadRect.idx j = j :=
    funext fun x => Fin.ext (by
      have := Rect.idx_unit_val (s := S640x128) ![0, 0] ![640, 128] i4 j x
      fin_cases x <;> simpa using this)
  rw [hj]
  clear hj
  have hb : (j 0 : Nat) < 640 := (j 0).isLt
  show _ = stackK a b c d j
  unfold stackK
  by_cases h3 : 384 ≤ (j 0 : Nat)
  · rw [dif_neg (by omega), dif_neg (by omega), dif_neg (by omega), dif_pos (by omega)]
    exact canon_hit2 _ _ _ _ ⟨(j 0 : Nat) - 384, by omega⟩ (j 1) (by dsimp only; omega) (by omega)
  rw [canon_miss2 _ _ _ _ (Or.inl (by omega))]
  by_cases h2 : 256 ≤ (j 0 : Nat)
  · rw [dif_neg (by omega), dif_neg (by omega), dif_pos (by omega)]
    exact canon_hit2 _ _ _ _ ⟨(j 0 : Nat) - 256, by omega⟩ (j 1) (by dsimp only; omega) (by omega)
  rw [canon_miss2 _ _ _ _ (Or.inl (by omega))]
  by_cases h1 : 128 ≤ (j 0 : Nat)
  · rw [dif_neg (by omega), dif_pos (by omega)]
    exact canon_hit2 _ _ _ _ ⟨(j 0 : Nat) - 128, by omega⟩ (j 1) (by dsimp only; omega) (by omega)
  rw [canon_miss2 _ _ _ _ (Or.inl (by omega)), dif_pos (by omega)]
  exact canon_hit2 _ _ _ _ ⟨(j 0 : Nat), by omega⟩ (j 1) (by dsimp only; omega) (by omega)

/-! ## The output block -/

/-- Head `a`'s columns of the queries. -/
def cq (x : Vec F S128x1024 .f32) (a : Fin 8) : Vec F S128x128 .f32 := fun j =>
  x (ix2 (j 0) ⟨128 * a.val + (j 1).val, by have h : (j 1).val < 128 := (j 1).isLt; omega⟩)

/-- Group `g`'s columns of the keys or values. -/
def ck (x : Vec F S128x256 .f32) (g : Fin 2) : Vec F S128x128 .f32 := fun j =>
  x (ix2 (j 0) ⟨128 * g.val + (j 1).val, by have h : (j 1).val < 128 := (j 1).isLt; omega⟩)

/-- Group `g`'s columns of the context rows. -/
def cx (x : Vec F S256x256 .f32) (g : Fin 2) : Vec F S256x128 .f32 := fun j =>
  x (ix2 (j 0) ⟨128 * g.val + (j 1).val, by have h : (j 1).val < 128 := (j 1).isLt; omega⟩)

/-- Block row `r` of four blocks of rows, rounded for the output. -/
def cut (r : Fin 4) (H : FVec F S512x128 .f32) : FVec F S128x128 .bf16 :=
  truncf .bf16 (fun j => H (ix2 ⟨128 * r.val + (j 0).val, by have h : (j 0).val < 128 := (j 0).isLt; omega⟩ (j 1)) : FVec F S128x128 .f32) bitsLt_bf16_f32

/-- The eight heads' blocks side by side. -/
def cols (f : Fin 8 → Vec F S128x128 .bf16) : Vec F S128x1024 .bf16 := fun j =>
  f ⟨(j 1).val / 128, by have h : (j 1).val < 1024 := (j 1).isLt; omega⟩ (ix2 (j 0) ⟨(j 1).val % 128, by omega⟩)

theorem ld_cq (x : Vec F S128x1024 .f32) (a : Fin 8) (o : Nat) (ho : o = 128 * a.val) (inb) :
    View.ld x (Rect.unit (s := S128x1024) ![0, o] ![128, 128] inb) = cq x a := by
  subst ho
  funext j
  refine View.ld_unit_apply_of x _ _ inb j _ fun b => ?_
  fin_cases b <;> simp

theorem ld_ck (x : Vec F S128x256 .f32) (g : Fin 2) (o : Nat) (ho : o = 128 * g.val) (inb) :
    View.ld x (Rect.unit (s := S128x256) ![0, o] ![128, 128] inb) = ck x g := by
  subst ho
  funext j
  refine View.ld_unit_apply_of x _ _ inb j _ fun b => ?_
  fin_cases b <;> simp

theorem ld_cx (x : Vec F S256x256 .f32) (g : Fin 2) (o : Nat) (ho : o = 128 * g.val) (inb) :
    View.ld x (Rect.unit (s := S256x256) ![0, o] ![256, 128] inb) = cx x g := by
  subst ho
  funext j
  refine View.ld_unit_apply_of x _ _ inb j _ fun b => ?_
  fin_cases b <;> simp

theorem ld_whole (x : Vec F S128x128 .f32) (inb) :
    View.ld x (Rect.unit (s := S128x128) ![0, 0] ![128, 128] inb) = x := by
  funext j
  refine View.ld_unit_apply_of x _ _ inb j _ fun b => ?_
  fin_cases b <;> simp

theorem ld_sink (x : Vec F S8 .f32) (a : Fin 8) (o : Nat) (ho : o = a.val) (inb) (h) :
    View.ld x (Rect.unit (s := S8) ![o] ![1] inb) (Shape.Idx.first h) = x (ix1 a) := by
  subst ho
  refine View.ld_unit_apply_of x _ _ inb _ _ fun b => ?_
  fin_cases b
  simp [Shape.Idx.first]

theorem slice_cut (r : Fin 4) (o : Nat) (ho : o = 128 * r.val) (H : FVec F S512x128 .f32) (hs) :
    truncf .bf16 (extractStridedSlice S128x128 ![o, 0] H hs) bitsLt_bf16_f32 = cut r H := by
  subst ho
  unfold cut
  congr 1
  funext j
  show H _ = H _
  congr 1
  funext b
  fin_cases b <;> exact Fin.ext (by simp)

/-- Eight blocks stored side by side, read as one array. -/
theorem canon_cols (f : Fin 8 → Vec F S128x128 .bf16) (w0 w1 w2 w3 w4 w5 w6 w7 : Vec F S128x128 .bf16)
    (h0 : w0 = f 0) (h1 : w1 = f 1) (h2 : w2 = f 2) (h3 : w3 = f 3) (h4 : w4 = f 4) (h5 : w5 = f 5) (h6 : w6 = f 6) (h7 : w7 = f 7)
    (i0 i1 i2 i3 i4 i5 i6 i7) :
    View.canon [(⟨Rect.unit (s := S128x1024) ![0, 896] ![128, 128] i7, w7⟩ : View.Piece (Elt F) S128x1024 .bf16),
      ⟨Rect.unit (s := S128x1024) ![0, 768] ![128, 128] i6, w6⟩, ⟨Rect.unit (s := S128x1024) ![0, 640] ![128, 128] i5, w5⟩,
      ⟨Rect.unit (s := S128x1024) ![0, 512] ![128, 128] i4, w4⟩, ⟨Rect.unit (s := S128x1024) ![0, 384] ![128, 128] i3, w3⟩,
      ⟨Rect.unit (s := S128x1024) ![0, 256] ![128, 128] i2, w2⟩, ⟨Rect.unit (s := S128x1024) ![0, 128] ![128, 128] i1, w1⟩,
      ⟨Rect.unit (s := S128x1024) ![0, 0] ![128, 128] i0, w0⟩] = cols f := by
  subst h0 h1 h2 h3 h4 h5 h6 h7
  funext j
  have hb : (j 1).val < 1024 := (j 1).isLt
  have key : ∀ a : Fin 8, (j 1).val / 128 = a.val → cols f j = f a (ix2 (j 0) ⟨(j 1).val % 128, by omega⟩) := by
    intro a ha
    unfold cols
    congr 2
  by_cases c7 : 896 ≤ (j 1).val
  · rw [key 7 (by show _ = 7; omega)]
    exact canon_hit2 _ _ _ _ _ _ (by omega) (by dsimp only; omega)
  rw [canon_miss2 _ _ _ _ (Or.inr (by omega))]
  by_cases c6 : 768 ≤ (j 1).val
  · rw [key 6 (by show _ = 6; omega)]
    exact canon_hit2 _ _ _ _ _ _ (by omega) (by dsimp only; omega)
  rw [canon_miss2 _ _ _ _ (Or.inr (by omega))]
  by_cases c5 : 640 ≤ (j 1).val
  · rw [key 5 (by show _ = 5; omega)]
    exact canon_hit2 _ _ _ _ _ _ (by omega) (by dsimp only; omega)
  rw [canon_miss2 _ _ _ _ (Or.inr (by omega))]
  by_cases c4 : 512 ≤ (j 1).val
  · rw [key 4 (by show _ = 4; omega)]
    exact canon_hit2 _ _ _ _ _ _ (by omega) (by dsimp only; omega)
  rw [canon_miss2 _ _ _ _ (Or.inr (by omega))]
  by_cases c3 : 384 ≤ (j 1).val
  · rw [key 3 (by show _ = 3; omega)]
    exact canon_hit2 _ _ _ _ _ _ (by omega) (by dsimp only; omega)
  rw [canon_miss2 _ _ _ _ (Or.inr (by omega))]
  by_cases c2 : 256 ≤ (j 1).val
  · rw [key 2 (by show _ = 2; omega)]
    exact canon_hit2 _ _ _ _ _ _ (by omega) (by dsimp only; omega)
  rw [canon_miss2 _ _ _ _ (Or.inr (by omega))]
  by_cases c1 : 128 ≤ (j 1).val
  · rw [key 1 (by show _ = 1; omega)]
    exact canon_hit2 _ _ _ _ _ _ (by omega) (by dsimp only; omega)
  rw [canon_miss2 _ _ _ _ (Or.inr (by omega)), key 0 (by show _ = 0; omega)]
  exact canon_hit2 _ _ _ _ _ _ (by omega) (by dsimp only; omega)

/-- Head `h` of group `g` among the eight. -/
def hd (g : Fin 2) (h : Fin 4) : Fin 8 := ⟨4 * g.val + h.val, by omega⟩

/-- Group `g`'s four heads at one grid point, from the point's input blocks. -/
def grp (i : grid0.Coords) (x0 : Vec F S8 .f32) (x1 : Vec F S128x1024 .f32) (x2 x3 x4 x5 x6 x7 : Vec F S128x256 .f32) (x8 x9 : Vec F S256x256 .f32)
    (x10 x11 x12 x13 x14 x15 : Vec F S128x128 .f32) (g : Fin 2) : FVec F S512x128 .f32 :=
  heads i (sinks (x0 (ix1 (hd g 0))) (x0 (ix1 (hd g 1))) (x0 (ix1 (hd g 2))) (x0 (ix1 (hd g 3))))
    (stackQ (rotated (cq x1 (hd g 0)) x11 x14) (rotated (cq x1 (hd g 1)) x11 x14) (rotated (cq x1 (hd g 2)) x11 x14) (rotated (cq x1 (hd g 3)) x11 x14))
    (stackK (rotated (ck x2 g) x10 x13) (rotated (ck x3 g) x11 x14) (rotated (ck x4 g) x12 x15) (k0_pay21 (cx x8 g)))
    (stackK (k0_pay22 (ck x5 g)) (k0_pay22 (ck x6 g)) (k0_pay22 (ck x7 g)) (k0_pay21 (cx x9 g)))

set_option maxHeartbeats 1000000 in
/-- What the body leaves in the attention's output block. -/
theorem out_eq (c : Dev nD) (i : grid0.Coords) (arg1 : Memref sig .tc .smem S8 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S512x1408 .f32) (harg17 : arg17.IsWhole) (arg18 : Memref sig .tc .vmem S128x1024 .bf16) (harg18 : arg18.IsWhole) (arg19 : Memref sig .tc .vmem S512x1408 .bf16) (harg19 : arg19.IsWhole) (arg20 : Memref sig .tc .vmem S512x128 .bf16) (harg20 : arg20.IsWhole) (arg21 : Memref sig .tc .vmem S640x128 .bf16) (harg21 : arg21.IsWhole) (arg22 : Memref sig .tc .vmem S640x128 .bf16) (harg22 : arg22.IsWhole)
    (x0 : Vec F S8 .f32) (x1 : Vec F S128x1024 .f32) (x2 : Vec F S128x256 .f32) (x3 : Vec F S128x256 .f32) (x4 : Vec F S128x256 .f32) (x5 : Vec F S128x256 .f32) (x6 : Vec F S128x256 .f32) (x7 : Vec F S128x256 .f32) (x8 : Vec F S256x256 .f32) (x9 : Vec F S256x256 .f32) (x10 : Vec F S128x128 .f32) (x11 : Vec F S128x128 .f32) (x12 : Vec F S128x128 .f32) (x13 : Vec F S128x128 .f32) (x14 : Vec F S128x128 .f32) (x15 : Vec F S128x128 .f32) (x16 : Vec F S512x1408 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 = cols fun a => cut ⟨a.val % 4, by omega⟩ (grp i x0 x1 x2 x3 x4 x5 x6 x7 x8 x9 x10 x11 x12 x13 x14 x15 ⟨a.val / 4, by omega⟩) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  simp only [readCov_stackQ, readCov_stackK, ld_whole, ld_cq x1 0 0 rfl, ld_cq x1 1 128 rfl, ld_cq x1 2 256 rfl, ld_cq x1 3 384 rfl,
    ld_cq x1 4 512 rfl, ld_cq x1 5 640 rfl, ld_cq x1 6 768 rfl, ld_cq x1 7 896 rfl, ld_ck _ 0 0 rfl, ld_ck _ 1 128 rfl, ld_cx _ 0 0 rfl, ld_cx _ 1 128 rfl,
    ld_sink x0 0 0 rfl, ld_sink x0 1 1 rfl, ld_sink x0 2 2 rfl, ld_sink x0 3 3 rfl, ld_sink x0 4 4 rfl, ld_sink x0 5 5 rfl, ld_sink x0 6 6 rfl, ld_sink x0 7 7 rfl]
  refine canon_cols _ _ _ _ _ _ _ _ _ ?_ ?_ ?_ ?_ ?_ ?_ ?_ ?_ _ _ _ _ _ _ _ _
  · exact slice_cut 0 0 rfl _ slices_S512x128_o0_0_S128x128
  · exact slice_cut 1 128 rfl _ slices_S512x128_o128_0_S128x128
  · exact slice_cut 2 256 rfl _ slices_S512x128_o256_0_S128x128
  · exact slice_cut 3 384 rfl _ slices_S512x128_o384_0_S128x128
  · exact slice_cut 0 0 rfl _ slices_S512x128_o0_0_S128x128
  · exact slice_cut 1 128 rfl _ slices_S512x128_o128_0_S128x128
  · exact slice_cut 2 256 rfl _ slices_S512x128_o256_0_S128x128
  · exact slice_cut 3 384 rfl _ slices_S512x128_o384_0_S128x128

end Cert.KernelIdeal.Blk

end
-- ==== Proof.Row.lean ====
/-
  The attention's block read at an index over the extended reals: the rotation, the mask, the sinks, and
  one query row as a softmax with a sink.
-/
module

public import proofs.«01_k».proof.Proof.Block
public import Idealize.ShloMosaic.Lib.Tactic.CleanTypes

@[expose] public section

set_option maxRecDepth 16384

noncomputable section

namespace Cert.KernelIdeal.Blk

open Cert.KernelIdeal Cert.KernelIdeal.Gen Idealize.ShloMosaic Idealize.ShloMosaic.TcCoe Idealize.SL.Sem

/-! ## The rotation -/

/-- The lane a rotation pairs with lane `l`. -/
def swap (l : Fin 128) : Fin 128 := ⟨if l.val % 64 < 32 then l.val + 32 else l.val - 32, by split <;> omega⟩

/-- The word that selects the upper or the lower roll, at every lane. -/
theorem laneBit : ∀ l : Fin 128, IntOp.cmpi CmpIPredicate.slt
    (Scalar.select
      (IntOp.andi
        (IntOp.xori
          (IntOp.cmpi CmpIPredicate.slt (IntOp.remsi ArithUnit.vector (BitVec.ofNat 32 l.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 l.val) (Scalar.select (Scalar.cmpi CmpIPredicate.eq 64#32 0#32) 1#32 64#32)) 0#32))
      (IntOp.addi (IntOp.remsi ArithUnit.vector (BitVec.ofNat 32 l.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val) (Scalar.select (Scalar.cmpi CmpIPredicate.eq 64#32 0#32) 1#32 64#32)))
    32#32 = if l.val % 64 < 32 then 1#1 else 0#1 := by decide +kernel

theorem rotated_apply (x co si : FVec Ideal S128x128 .f32) (r l : Fin 128) :
    rotated x co si (ix2 r l) = x (ix2 r l) * co (ix2 r l) + x (ix2 r (swap l)) * si (ix2 r l) := by
  unfold rotated
  pointwise [k0_pay20, k0_pay19]
  rw [laneBit l]
  congr 2
  by_cases h : l.val % 64 < 32
  · rw [if_pos h]
    show x _ = x _
    congr 2
    exact Fin.ext (by simp only [swap, if_pos h]; omega)
  · rw [if_neg h]
    show x _ = x _
    congr 2
    exact Fin.ext (by simp only [swap, if_neg h]; omega)

/-! ## The mask -/

/-- Query `q` of block `n` may attend to key `j` of its 640: a context key, or a key of the window that exists and is
    within 128 places. -/
def valid (n q j : ℕ) : Prop := 384 ≤ j ∨ (2 ≤ n ∧ (j < 128 → 3 ≤ n) ∧ (256 ≤ j → n ≤ 64) ∧ q ≤ j ∧ j ≤ q + 256)

instance (n q j : ℕ) : Decidable (valid n q j) := by unfold valid; infer_instance

theorem seg0 : ∀ n : Fin 66, Scalar.select (Scalar.cmpi CmpIPredicate.sge (BitVec.ofNat 32 n.val) 2#32) 1#32 0#32 = if 2 ≤ n.val then 1#32 else 0#32 := by
  decide +kernel

theorem segPrev : ∀ n : Fin 66, Scalar.select (Scalar.cmpi CmpIPredicate.sge (Scalar.subi (BitVec.ofNat 32 n.val) 1#32) 2#32) (if 2 ≤ n.val then 1#32 else 0#32) 0#32
    = if 3 ≤ n.val then 1#32 else 0#32 := by decide +kernel

theorem segNext : ∀ n : Fin 66, Scalar.select (Scalar.cmpi CmpIPredicate.sle (Scalar.addi (BitVec.ofNat 32 n.val) 1#32) 65#32) (if 2 ≤ n.val then 1#32 else 0#32) 0#32
    = if 2 ≤ n.val ∧ n.val ≤ 64 then 1#32 else 0#32 := by decide +kernel

theorem keyBits : ∀ j : Fin 640, IntOp.cmpi CmpIPredicate.sge (BitVec.ofNat 32 j.val) 384#32 = (if 384 ≤ j.val then 1#1 else 0#1) ∧
    IntOp.cmpi CmpIPredicate.slt (BitVec.ofNat 32 j.val) 128#32 = (if j.val < 128 then 1#1 else 0#1) ∧
    IntOp.cmpi CmpIPredicate.slt (BitVec.ofNat 32 j.val) 256#32 = (if j.val < 256 then 1#1 else 0#1) := by decide +kernel

theorem rowBits : ∀ q : Fin 512, IntOp.andi (BitVec.ofNat 32 q.val) 127#32 = BitVec.ofNat 32 (q.val % 128) := by decide +kernel

theorem relBits : ∀ d : Fin 1280, IntOp.andi (IntOp.cmpi CmpIPredicate.sge (BitVec.ofNat 32 d.val - 768#32) 4294967168#32)
    (IntOp.cmpi CmpIPredicate.sle (BitVec.ofNat 32 d.val - 768#32) 128#32) = if 640 ≤ d.val ∧ d.val ≤ 896 then 1#1 else 0#1 := by decide +kernel

theorem rel_word (j p : ℕ) (hp : p < 128) : IntOp.subi (IntOp.subi (BitVec.ofNat 32 j) 128#32) (BitVec.ofNat 32 p) = BitVec.ofNat 32 (j + 640 - p) - 768#32 := by
  show BitVec.ofNat 32 j - 128#32 - BitVec.ofNat 32 p = _
  apply BitVec.eq_of_toNat_eq
  simp only [BitVec.toNat_sub, BitVec.toNat_ofNat]
  omega

/-- The mask's bits. -/
theorem valid_apply (i : grid0.Coords) (q : Fin 512) (j : Fin 640) :
    k0_pay4 i (ix2 q j) = if valid (i 0).val (q.val % 128) j.val then 1#1 else 0#1 := by
  pointwise [k0_pay4]
  have hn : (i 0).val < 66 := (i 0).isLt
  generalize (i 0).val = n at hn
  rw [seg0 ⟨n, hn⟩, segPrev ⟨n, hn⟩, segNext ⟨n, hn⟩, (keyBits j).1, (keyBits j).2.1, (keyBits j).2.2, rowBits q,
    rel_word j.val (q.val % 128) (by omega)]
  have hp : q.val % 128 < 128 := by omega
  generalize q.val % 128 = p at hp
  have hjj := j.isLt
  generalize j.val = k at hjj
  have hr : IntOp.andi (IntOp.cmpi CmpIPredicate.sge (BitVec.ofNat 32 (k + 640 - p) - 768#32) 4294967168#32)
      (IntOp.cmpi CmpIPredicate.sle (BitVec.ofNat 32 (k + 640 - p) - 768#32) 128#32) = if p ≤ k ∧ k ≤ p + 256 then 1#1 else 0#1 := by
    have h := relBits ⟨k + 640 - p, by omega⟩
    have hc : (640 ≤ k + 640 - p ∧ k + 640 - p ≤ 896) = (p ≤ k ∧ k ≤ p + 256) := propext (by omega)
    simpa only [hc] using h
  have hf : IntOp.andi (IntOp.cmpi CmpIPredicate.sge 129#32 4294967168#32) (IntOp.cmpi CmpIPredicate.sle 129#32 128#32) = 0#1 := by decide +kernel
  have h1 : IntOp.cmpi CmpIPredicate.sgt 1#32 0#32 = 1#1 := by decide +kernel
  have h0 : IntOp.cmpi CmpIPredicate.sgt 0#32 0#32 = 0#1 := by decide +kernel
  have s1 : ∀ {α : Type} (a b : α), Scalar.select 1#1 a b = a := fun _ _ => rfl
  have s0 : ∀ {α : Type} (a b : α), Scalar.select 0#1 a b = b := fun _ _ => rfl
  have o1 : ∀ w : BitVec 1, IntOp.ori 1#1 w = 1#1 := by decide
  have o0 : ∀ w : BitVec 1, IntOp.ori 0#1 w = w := by decide
  have hs : Scalar.select (if k < 128 then 1#1 else 0#1) (if 3 ≤ n then 1#32 else 0#32)
      (Scalar.select (if k < 256 then 1#1 else 0#1) (if 2 ≤ n then 1#32 else 0#32) (if 2 ≤ n ∧ n ≤ 64 then 1#32 else 0#32))
      = if 2 ≤ n ∧ (k < 128 → 3 ≤ n) ∧ (256 ≤ k → n ≤ 64) then 1#32 else 0#32 := by
    by_cases e : k < 128
    · rw [if_pos e, s1]
      congr 1
      exact propext (by omega)
    · rw [if_neg e, s0]
      by_cases f : k < 256
      · rw [if_pos f, s1]
        congr 1
        exact propext (by omega)
      · rw [if_neg f, s0]
        congr 1
        exact propext (by omega)
  rw [hs]
  by_cases c : 384 ≤ k
  · rw [if_pos c, o1, if_pos (show valid n p k from Or.inl c)]
  rw [if_neg c, o0]
  by_cases a : 2 ≤ n ∧ (k < 128 → 3 ≤ n) ∧ (256 ≤ k → n ≤ 64)
  · rw [if_pos a, h1, s1, hr]
    congr 1
    exact propext (by unfold valid; omega)
  · rw [if_neg a, h0, s0, hf, if_neg (show ¬ valid n p k by unfold valid; omega)]

/-! ## The sinks -/

theorem headWord : ∀ q : Fin 512, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 q.val) 128#32) 0#32))
      (IntOp.subi (IntOp.divsi ArithUnit.vector (BitVec.ofNat 32 q.val) 128#32) 1#32)
      (IntOp.divsi ArithUnit.vector (BitVec.ofNat 32 q.val) 128#32) = BitVec.ofNat 32 (q.val / 128) := by decide +kernel

theorem eqBits : ∀ h k : Fin 4, IntOp.cmpi CmpIPredicate.eq (BitVec.ofNat 32 h.val) (BitVec.ofNat 32 k.val) = if h = k then 1#1 else 0#1 := by decide +kernel

theorem rowHead_apply (q : Fin 512) : rowHead (ix2 q 0) = BitVec.ofNat 32 (q.val / 128) := by
  unfold rowHead
  pointwise [k0_pay6, k0_pay5]
  exact headWord q

/-- The sink of a query row is its head's. -/
theorem sinks_apply (s : Fin 4 → EReal) (h : Fin 4) (q : Fin 128) :
    sinks (F := Ideal) (s 0) (s 1) (s 2) (s 3) (ix2 ⟨128 * h.val + q.val, by omega⟩ 0) = s h := by
  unfold sinks
  pointwise [k0_pay36, k0_pay33, k0_pay30, k0_pay28, k0_pay26]
  rw [rowHead_apply]
  have e : (128 * h.val + q.val) / 128 = h.val := by omega
  have b0 := eqBits h 0
  have b1 := eqBits h 1
  have b2 := eqBits h 2
  have b3 := eqBits h 3
  dsimp only at b0 b1 b2 b3 ⊢
  rw [e]
  fin_cases h <;> rfl

/-! ## One query row -/

/-- The named constant is `-∞`. -/
theorem named_mask : (Named.named κ "mask" 0xF149F2CA#32 : Ideal .f32) = (⊥ : EReal) := rfl

/-- One query row: a softmax over its 640 keys, the masked ones at `-∞`, with its head's sink. -/
theorem heads_apply (i : grid0.Coords) (t : FVec Ideal S512x1 .f32) (q : Vec Ideal S512x128 .bf16) (k v : Vec Ideal S640x128 .bf16) (r : Fin 512) (d : Fin 128) :
    heads i t q k v (ix2 r d) = Row.out (fun j : Fin 640 => if valid (i 0).val (r.val % 128) j.val then (∑ e : Fin 128, q (ix2 r e) * k (ix2 j e)) * Ideal.ofBits FTy.f32 1035273459#32 else ⊥)
      (t (ix2 r 0)) (fun j => v (ix2 j d)) := by
  unfold heads
  pointwise [k0_pay38, k0_pay37]
  have hb : Ideal.ofBits FTy.f32 4286578688#32 = ⊥ := by rfl
  have hs : ∀ x : Fin 640, Scalar.select (k0_pay4 i (ix2 r x)) ((∑ e : Fin 128, q (ix2 r e) * k (ix2 x e)) * Ideal.ofBits FTy.f32 1035273459#32) (Named.named κ "mask" 4048155338#32 : Ideal .f32)
      = if valid (i 0).val (r.val % 128) x.val then (∑ e : Fin 128, q (ix2 r e) * k (ix2 x e)) * Ideal.ofBits FTy.f32 1035273459#32 else ⊥ := by
    intro x
    rw [valid_apply]
    by_cases h : valid (i 0).val (r.val % 128) x.val
    · rw [if_pos h, if_pos h]; rfl
    · rw [if_neg h, if_neg h]; rfl
  simp only [hs, hb]
  rfl

end Cert.KernelIdeal.Blk

end
-- ==== Proof.Spec.lean ====
/-
  The attention row by row, in coordinates that are natural numbers: the activations at a row and a column,
  a rotated lane, the keys, values and scores of a block of 128 queries, and one lane of one output row.
-/
module

public import proofs.«01_k».proof.Proof.Rope
public import proofs.«01_k».proof.Proof.Row

@[expose] public section

noncomputable section

namespace Cert.Row

open Idealize.ShloMosaic Cert.KernelIdeal.Blk

/-- The activations at row `r` and column `c` (0 outside them). -/
def rd (x : (⟨2, ![8448, 2560]⟩ : Shape).Idx → EReal) (r c : ℕ) : EReal :=
  if h : r < 8448 ∧ c < 2560 then x (ix2 ⟨r, h.1⟩ ⟨c, h.2⟩) else 0

theorem rd_mk (x : (⟨2, ![8448, 2560]⟩ : Shape).Idx → EReal) (r : Fin 8448) (c : Fin 2560) : x (ix2 r c) = rd x r.val c.val := by
  unfold rd
  rw [dif_pos ⟨r.isLt, c.isLt⟩]

/-- Lane `l` of the head that starts at column `c`, rotated as row `r`'s place says. -/
def rot (x : (⟨2, ![8448, 2560]⟩ : Shape).Idx → EReal) (r c : ℕ) (l : Fin 128) : EReal :=
  rd x r (c + l.val) * cosT r l + rd x r (c + (swap l).val) * sinT r l

/-- A context row isn't turned. -/
theorem rot_ctx (x : (⟨2, ![8448, 2560]⟩ : Shape).Idx → EReal) (r c : ℕ) (l : Fin 128) (h : r < 256) : rot x r c l = rd x r (c + l.val) := by
  unfold rot cosT sinT
  rw [if_pos h, if_pos h, mul_one, mul_zero, add_zero]

/-- Lane `e` of key `j` of block `i`, key head `g`: a rotated key of the three blocks about it, or one of the context. -/
def key (x : (⟨2, ![8448, 2560]⟩ : Shape).Idx → EReal) (i g j : ℕ) (e : Fin 128) : EReal :=
  if j < 384 then rot x (128 * (i - 1) + j) (2048 + 128 * g) e else rd x (j - 384) (2048 + 128 * g + e.val)

/-- Lane `d` of the value of key `j` of block `i`. -/
def vl (x : (⟨2, ![8448, 2560]⟩ : Shape).Idx → EReal) (i g j d : ℕ) : EReal :=
  if j < 384 then rd x (128 * (i - 1) + j) (2304 + 128 * g + d) else rd x (j - 384) (2304 + 128 * g + d)

/-- The score of head `a` of row `r` against key `j`. -/
def score (x : (⟨2, ![8448, 2560]⟩ : Shape).Idx → EReal) (r a j : ℕ) : EReal :=
  (∑ e : Fin 128, rot x r (128 * a) e * key x (r / 128) (a / 4) j e) * Ideal.ofBits FTy.f32 1035273459#32

/-- The scores of a row, those of the masked keys `-∞`. -/
def scores (x : (⟨2, ![8448, 2560]⟩ : Shape).Idx → EReal) (r a : ℕ) (j : Fin 640) : EReal :=
  if valid (r / 128) (r % 128) j.val then score x r a j.val else ⊥

/-- Lane `d` of head `a` of output row `r`, under the head's sink `t`. -/
def att (x : (⟨2, ![8448, 2560]⟩ : Shape).Idx → EReal) (t : EReal) (r a d : ℕ) : EReal :=
  out (scores x r a) t (fun j => vl x (r / 128) (a / 4) j.val d)

/-- A context row attends to the 256 context keys. -/
theorem att_ctx (x : (⟨2, ![8448, 2560]⟩ : Shape).Idx → EReal) (t : EReal) (r a d : ℕ) (h : r < 256) :
    att x t r a d = out (fun j : Fin 256 => (∑ e : Fin 128, rd x r (128 * a + e.val) * rd x j.val (2048 + 128 * (a / 4) + e.val)) * Ideal.ofBits FTy.f32 1035273459#32)
      t (fun j => rd x j.val (2304 + 128 * (a / 4) + d)) := by
  unfold att
  rw [out_tail (a := 384) (b := 256) rfl]
  · refine out_congr (fun j => ?_) rfl (fun j => Or.inr ?_)
    · unfold scores
      rw [if_pos (show valid _ _ _ from Or.inl (Nat.le_add_right _ _))]
      unfold score
      congr 1
      refine Finset.sum_congr rfl fun e _ => ?_
      rw [rot_ctx x r _ e h]
      unfold key
      rw [if_neg (by dsimp only; omega), Nat.add_sub_cancel_left]
    · unfold vl
      rw [if_neg (by dsimp only; omega), Nat.add_sub_cancel_left]
  · intro j hj
    unfold scores
    exact if_neg (by unfold valid; omega)

/-- The queries and the keys are real numbers. -/
def Good (x : (⟨2, ![8448, 2560]⟩ : Shape).Idx → EReal) : Prop :=
  ∀ r c : ℕ, c < 1024 ∨ (2048 ≤ c ∧ c < 2304) → Fin' (rd x r c)

theorem fin_rot {x : (⟨2, ![8448, 2560]⟩ : Shape).Idx → EReal} (hx : Good x) (r c : ℕ) (l : Fin 128)
    (h : c + 128 ≤ 1024 ∨ (2048 ≤ c ∧ c + 128 ≤ 2304)) : Fin' (rot x r c l) := by
  have h1 := l.isLt
  have h2 := (swap l).isLt
  exact ((hx _ _ (by omega)).mul (fin_cosT _ _)).add ((hx _ _ (by omega)).mul (fin_sinT _ _))

theorem fin_score {x : (⟨2, ![8448, 2560]⟩ : Shape).Idx → EReal} (hx : Good x) (r a j : ℕ) (ha : a < 8) : Fin' (score x r a j) := by
  refine Fin'.mul (Fin'.sum _ _ fun e => (fin_rot hx _ _ _ (by omega)).mul ?_) fin_scale
  have he := e.isLt
  unfold key
  split
  · exact fin_rot hx _ _ _ (by omega)
  · exact hx _ _ (by omega)

theorem scores_ne_top {x : (⟨2, ![8448, 2560]⟩ : Shape).Idx → EReal} (hx : Good x) (r a : ℕ) (ha : a < 8) (j : Fin 640) : scores x r a j ≠ ⊤ := by
  unfold scores
  split
  · exact (fin_score hx r a j.val ha).ne_top
  · exact bot_ne_top

end Cert.Row

end
-- ==== Proof.Grp.lean ====
/-
  One grid point's attention in the coordinates of the whole arrays: when the point's input blocks are the
  rows of the activations and of the rotary tables that the grid says, its rows are rows of the attention.
-/
module

public import proofs.«01_k».proof.Proof.Spec

@[expose] public section

set_option maxRecDepth 16384

noncomputable section

namespace Cert.KernelIdeal.Blk

open Cert.KernelIdeal Cert.KernelIdeal.Gen Idealize.ShloMosaic Idealize.ShloMosaic.TcCoe Idealize.SL.Sem

/-- A row of four stacked blocks. -/
theorem stackQ_apply (f : Fin 4 → Vec Ideal S128x128 .bf16) (h : Fin 4) (q e : Fin 128) :
    stackQ (f 0) (f 1) (f 2) (f 3) (ix2 ⟨128 * h.val + q.val, by omega⟩ e) = f h (ix2 q e) := by
  have hq := q.isLt
  have key : ∀ (k : Fin 4) (n : ℕ) (hn : n < 128), n = q.val → f k (ix2 ⟨n, hn⟩ e) = f k (ix2 q e) := by
    intro k n hn h; subst h; rfl
  unfold stackQ
  match h with
  | ⟨0, _⟩ => exact (dif_pos (by show 128 * 0 + q.val < 128; omega)).trans (key 0 _ _ (by show 128 * 0 + q.val = _; omega))
  | ⟨1, _⟩ => exact (dif_neg (by show ¬ 128 * 1 + q.val < 128; omega)).trans ((dif_pos (by show 128 * 1 + q.val - 128 < 128; omega)).trans (key 1 _ _ (by show 128 * 1 + q.val - 128 = _; omega)))
  | ⟨2, _⟩ => exact (dif_neg (by show ¬ 128 * 2 + q.val < 128; omega)).trans ((dif_neg (by show ¬ 128 * 2 + q.val - 128 < 128; omega)).trans ((dif_pos (by show 128 * 2 + q.val - 256 < 128; omega)).trans (key 2 _ _ (by show 128 * 2 + q.val - 256 = _; omega))))
  | ⟨3, _⟩ => exact (dif_neg (by show ¬ 128 * 3 + q.val < 128; omega)).trans ((dif_neg (by show ¬ 128 * 3 + q.val - 128 < 128; omega)).trans ((dif_neg (by show ¬ 128 * 3 + q.val - 256 < 128; omega)).trans ((dif_pos (by show 128 * 3 + q.val - 384 < 128; omega)).trans (key 3 _ _ (by show 128 * 3 + q.val - 384 = _; omega)))))

/-- A row of the stacked keys or values of a block, where each block's rows are known and the key isn't masked. -/
theorem stackK_apply (a b c : Vec Ideal S128x128 .bf16) (d : Vec Ideal S256x128 .bf16) (n q : ℕ) (j : Fin 640) (e : Fin 128) (y : EReal)
    (ha : 3 ≤ n → ∀ p : Fin 128, j.val = p.val → a (ix2 p e) = y)
    (hb : 2 ≤ n → ∀ p : Fin 128, j.val = 128 + p.val → b (ix2 p e) = y)
    (hc : 2 ≤ n → n ≤ 64 → ∀ p : Fin 128, j.val = 256 + p.val → c (ix2 p e) = y)
    (hd : ∀ p : Fin 256, j.val = 384 + p.val → d (ix2 p e) = y) (hv : valid n q j.val) : stackK a b c d (ix2 j e) = y := by
  have hj := j.isLt
  unfold valid at hv
  unfold stackK
  by_cases h0 : j.val < 128
  · exact (dif_pos h0).trans (ha (by omega) ⟨j.val, h0⟩ rfl)
  refine (dif_neg h0).trans ?_
  by_cases h1 : j.val - 128 < 128
  · exact (dif_pos h1).trans (hb (by omega) ⟨j.val - 128, h1⟩ (by dsimp only; omega))
  refine (dif_neg h1).trans ?_
  by_cases h2 : j.val - 256 < 128
  · exact (dif_pos h2).trans (hc (by omega) (by omega) ⟨j.val - 256, h2⟩ (by dsimp only; omega))
  refine (dif_neg h2).trans ?_
  exact (dif_pos (show j.val - 384 < 256 by omega)).trans (hd ⟨j.val - 384, by omega⟩ (by dsimp only; omega))

/-- A rotated block whose rows start at `R` and whose columns start at `C`. -/
theorem rotated_row (x : (⟨2, ![8448, 2560]⟩ : Shape).Idx → EReal) (b co si : FVec Ideal S128x128 .f32) (R C : ℕ)
    (hb : ∀ p l : Fin 128, b (ix2 p l) = Row.rd x (R + p.val) (C + l.val))
    (hco : ∀ p l : Fin 128, co (ix2 p l) = Row.cosT (R + p.val) l) (hsi : ∀ p l : Fin 128, si (ix2 p l) = Row.sinT (R + p.val) l)
    (p e : Fin 128) (r c : ℕ) (hr : r = R + p.val) (hc : c = C) : rotated b co si (ix2 p e) = Row.rot x r c e := by
  subst hr hc
  rw [rotated_apply, hb, hb, hco, hsi]
  rfl

theorem pay21_apply (v : Vec Ideal S256x128 .f32) (p : Fin 256) (e : Fin 128) : k0_pay21 v (ix2 p e) = v (ix2 p e) := by
  pointwise [k0_pay21]

theorem pay22_apply (v : Vec Ideal S128x128 .f32) (p e : Fin 128) : k0_pay22 v (ix2 p e) = v (ix2 p e) := by
  pointwise [k0_pay22]

/-- Row `q` of head `4 g + h` at grid point `n`. -/
theorem grp_apply (x : (⟨2, ![8448, 2560]⟩ : Shape).Idx → EReal) (i : grid0.Coords) (n : ℕ) (hn : (i 0).val = n)
    (x0 : Vec Ideal S8 .f32) (x1 : Vec Ideal S128x1024 .f32) (x2 x3 x4 x5 x6 x7 : Vec Ideal S128x256 .f32) (x8 x9 : Vec Ideal S256x256 .f32)
    (x10 x11 x12 x13 x14 x15 : Vec Ideal S128x128 .f32)
    (h1 : ∀ (p : Fin 128) (l : Fin 1024), x1 (ix2 p l) = Row.rd x (128 * n + p.val) l.val)
    (h2 : ∀ (p : Fin 128) (l : Fin 256), x2 (ix2 p l) = Row.rd x (128 * (n - 1) + p.val) (2048 + l.val))
    (h3 : ∀ (p : Fin 128) (l : Fin 256), x3 (ix2 p l) = Row.rd x (128 * n + p.val) (2048 + l.val))
    (h4 : ∀ (p : Fin 128) (l : Fin 256), x4 (ix2 p l) = Row.rd x (128 * min (n + 1) 65 + p.val) (2048 + l.val))
    (h5 : ∀ (p : Fin 128) (l : Fin 256), x5 (ix2 p l) = Row.rd x (128 * (n - 1) + p.val) (2304 + l.val))
    (h6 : ∀ (p : Fin 128) (l : Fin 256), x6 (ix2 p l) = Row.rd x (128 * n + p.val) (2304 + l.val))
    (h7 : ∀ (p : Fin 128) (l : Fin 256), x7 (ix2 p l) = Row.rd x (128 * min (n + 1) 65 + p.val) (2304 + l.val))
    (h8 : ∀ p l : Fin 256, x8 (ix2 p l) = Row.rd x p.val (2048 + l.val))
    (h9 : ∀ p l : Fin 256, x9 (ix2 p l) = Row.rd x p.val (2304 + l.val))
    (h10 : ∀ p l : Fin 128, x10 (ix2 p l) = Row.cosT (128 * (n - 1) + p.val) l)
    (h11 : ∀ p l : Fin 128, x11 (ix2 p l) = Row.cosT (128 * n + p.val) l)
    (h12 : ∀ p l : Fin 128, x12 (ix2 p l) = Row.cosT (128 * min (n + 1) 65 + p.val) l)
    (h13 : ∀ p l : Fin 128, x13 (ix2 p l) = Row.sinT (128 * (n - 1) + p.val) l)
    (h14 : ∀ p l : Fin 128, x14 (ix2 p l) = Row.sinT (128 * n + p.val) l)
    (h15 : ∀ p l : Fin 128, x15 (ix2 p l) = Row.sinT (128 * min (n + 1) 65 + p.val) l)
    (g : Fin 2) (h : Fin 4) (q d : Fin 128) :
    grp i x0 x1 x2 x3 x4 x5 x6 x7 x8 x9 x10 x11 x12 x13 x14 x15 g (ix2 ⟨128 * h.val + q.val, by omega⟩ d)
      = Row.att x (x0 (ix1 (hd g h))) (128 * n + q.val) (4 * g.val + h.val) d.val := by
  have hq := q.isLt
  have e1 : (128 * h.val + q.val) % 128 = q.val := by omega
  have e2 : (128 * n + q.val) / 128 = n := by omega
  have e3 : (128 * n + q.val) % 128 = q.val := by omega
  have e4 : (4 * g.val + h.val) / 4 = g.val := by omega
  unfold grp
  rw [heads_apply]
  unfold Row.att
  refine Row.out_congr (fun j => ?_) (sinks_apply (fun k => x0 (ix1 (hd g k))) h q) (fun j => ?_)
  · unfold Row.scores
    dsimp only
    rw [hn, e1, e2, e3]
    by_cases hv : valid n q.val j.val
    · rw [if_pos hv, if_pos hv]
      unfold Row.score
      rw [e2, e4]
      congr 1
      refine Finset.sum_congr rfl fun e _ => ?_
      congr 1
      · refine (stackQ_apply (fun k => rotated (cq x1 (hd g k)) x11 x14) h q e).trans ?_
        exact rotated_row x _ _ _ (128 * n) (128 * (4 * g.val + h.val)) (fun p l => h1 p _) h11 h14 q e _ _ rfl rfl
      · refine stackK_apply _ _ _ _ n q.val j e _ (fun hn p hp => ?_) (fun hn p hp => ?_) (fun hn hn' p hp => ?_) (fun p hp => ?_) hv
        · unfold Row.key
          rw [if_pos (by omega)]
          exact rotated_row x _ _ _ (128 * (n - 1)) (2048 + 128 * g.val) (fun p l => (h2 p _).trans (congrArg _ (Nat.add_assoc _ _ _).symm)) h10 h13 p e _ _ (by omega) rfl
        · unfold Row.key
          rw [if_pos (by omega)]
          exact rotated_row x _ _ _ (128 * n) (2048 + 128 * g.val) (fun p l => (h3 p _).trans (congrArg _ (Nat.add_assoc _ _ _).symm)) h11 h14 p e _ _ (by omega) rfl
        · unfold Row.key
          rw [if_pos (by omega)]
          exact rotated_row x _ _ _ (128 * min (n + 1) 65) (2048 + 128 * g.val) (fun p l => (h4 p _).trans (congrArg _ (Nat.add_assoc _ _ _).symm)) h12 h15 p e _ _ (by omega) rfl
        · unfold Row.key
          rw [if_neg (by omega), pay21_apply]
          refine (h8 p _).trans ?_
          rw [hp, Nat.add_sub_cancel_left, Nat.add_assoc]
          rfl
    · rw [if_neg hv, if_neg hv]
  · dsimp only
    rw [hn, e1]
    by_cases hv : valid n q.val j.val
    · right
      rw [e2, e4]
      refine stackK_apply _ _ _ _ n q.val j d _ (fun hn p hp => ?_) (fun hn p hp => ?_) (fun hn hn' p hp => ?_) (fun p hp => ?_) hv
      · unfold Row.vl
        rw [if_pos (by omega), pay22_apply]
        refine (h5 p _).trans ?_
        dsimp only
        rw [Nat.add_assoc 2304, show 128 * (n - 1) + j.val = 128 * (n - 1) + p.val by omega]
        rfl
      · unfold Row.vl
        rw [if_pos (by omega), pay22_apply]
        refine (h6 p _).trans ?_
        dsimp only
        rw [Nat.add_assoc 2304, show 128 * (n - 1) + j.val = 128 * n + p.val by omega]
        rfl
      · unfold Row.vl
        rw [if_pos (by omega), pay22_apply]
        refine (h7 p _).trans ?_
        dsimp only
        rw [Nat.add_assoc 2304, show 128 * (n - 1) + j.val = 128 * min (n + 1) 65 + p.val by omega]
        rfl
      · unfold Row.vl
        rw [if_neg (by omega), pay21_apply]
        refine (h9 p _).trans ?_
        dsimp only
        rw [hp, Nat.add_sub_cancel_left, Nat.add_assoc]
        rfl
    · left
      exact if_neg hv

end Cert.KernelIdeal.Blk

end
-- ==== Proof.Tables.lean ====
/-
  What the region finds in the rotary tables and in the reshaped weights, at an index.
-/
module

public import proofs.«01_k».proof.Proof.Gen.KernelIdeal.Value
public import proofs.«01_k».proof.Proof.Rope
public import Idealize.ShloMosaic.Lib.Tactic.CleanTypes
public import Idealize.ShloMosaic.Lib.StableHlo.ReadAt

@[expose] public section

set_option maxRecDepth 16384

noncomputable section

namespace Cert.KernelIdeal.Blk

open Cert.KernelIdeal Cert.KernelIdeal.Gen Idealize.ShloMosaic Idealize.ShloMosaic.TcCoe Idealize.SL.Sem

variable (m : (ℓ : Loc nD τ sig) → Buf (Elt Ideal) ℓ)

/-- The cosine table. -/
theorem cosTab (c : Dev nD) (r : Fin 8448) (l : Fin 128) : V m c main_v40 (ix2 r l) = Row.cosT r.val l := by
  unfold V
  after_reads_at
  after_reads_at
  unfold Row.cosT
  by_cases h : r.val < 256
  · rw [dif_pos h, if_pos h]
  rw [dif_neg h, if_neg h]
  by_cases h1 : l.val < 32
  · rw [dif_pos h1]
    simp only [Row.ang, Row.freq, Row.place, Row.lane, if_pos (show l.val < 64 by omega), show l.val % 32 = l.val by omega]
  rw [dif_neg h1]
  by_cases h2 : l.val - 32 < 32
  · rw [dif_pos h2]
    simp only [Row.ang, Row.freq, Row.place, Row.lane, if_pos (show l.val < 64 by omega), show l.val % 32 = l.val - 32 by omega]
  rw [dif_neg h2]
  by_cases h3 : l.val - 32 - 32 < 32
  · rw [dif_pos h3]
    simp only [Row.ang, Row.freq, Row.place, Row.lane, if_neg (show ¬ l.val < 64 by omega), show l.val % 32 = l.val - 32 - 32 by omega]
  rw [dif_neg h3]
  simp only [Row.ang, Row.freq, Row.place, Row.lane, if_neg (show ¬ l.val < 64 by omega), show l.val % 32 = l.val - 32 - 32 - 32 by omega]

/-- The table of signed sines. -/
theorem sinTab (c : Dev nD) (r : Fin 8448) (l : Fin 128) : V m c main_v42 (ix2 r l) = Row.sinT r.val l := by
  unfold V
  after_reads_at
  after_reads_at
  unfold Row.sinT
  by_cases h : r.val < 256
  · rw [dif_pos h, if_pos h]
  rw [dif_neg h, if_neg h]
  by_cases h1 : l.val < 32
  · rw [dif_pos h1, if_pos (show l.val % 64 < 32 by omega)]
    simp only [Row.ang, Row.freq, Row.place, Row.lane, if_pos (show l.val < 64 by omega), show l.val % 32 = l.val by omega]
  rw [dif_neg h1]
  by_cases h2 : l.val - 32 < 32
  · rw [dif_pos h2, if_neg (show ¬ l.val % 64 < 32 by omega)]
    simp only [Row.ang, Row.freq, Row.place, Row.lane, if_pos (show l.val < 64 by omega), show l.val % 32 = l.val - 32 by omega]
  rw [dif_neg h2]
  by_cases h3 : l.val - 32 - 32 < 32
  · rw [dif_pos h3, if_pos (show l.val % 64 < 32 by omega)]
    simp only [Row.ang, Row.freq, Row.place, Row.lane, if_neg (show ¬ l.val < 64 by omega), show l.val % 32 = l.val - 32 - 32 by omega]
  rw [dif_neg h3, if_neg (show ¬ l.val % 64 < 32 by omega)]
  simp only [Row.ang, Row.freq, Row.place, Row.lane, if_neg (show ¬ l.val < 64 by omega), show l.val % 32 = l.val - 32 - 32 - 32 by omega]

/-- The weights reshaped to rows. -/
theorem wTab (c : Dev nD) (r : Fin 131072) (l : Fin 1408) :
    V m c main_v43 (ix2 r l) = m ((c : Thread nD τ).loc main_arg2) (ix4 ⟨r.val / 32768, by omega⟩ ⟨r.val / 2048 % 16, by omega⟩ ⟨r.val % 2048, by omega⟩ l) := by
  unfold V
  after_reads_at

end Cert.KernelIdeal.Blk

end
-- ==== Proof.Kern.lean ====
/-
  The kernel's two results: the attention of the activations, row by row, and the second of the two weight blocks.
-/
module

public import proofs.«01_k».proof.Proof.Grp
public import proofs.«01_k».proof.Proof.Block
public import proofs.«01_k».proof.Proof.Tables

@[expose] public section

set_option maxRecDepth 16384

noncomputable section

namespace Cert.KernelIdeal.Blk

open Cert.KernelIdeal Cert.KernelIdeal.Gen Idealize.ShloMosaic Idealize.ShloMosaic.TcCoe Idealize.SL.Sem
open Idealize.ShloMosaic.Pipeline (Dat Window)

/-- What the body leaves in the copied weights' block: the block it read. -/
theorem copy_eq (c : Dev nD) (i : grid0.Coords) (arg1 : Memref sig .tc .smem S8 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S512x1408 .f32) (harg17 : arg17.IsWhole) (arg18 : Memref sig .tc .vmem S128x1024 .bf16) (harg18 : arg18.IsWhole) (arg19 : Memref sig .tc .vmem S512x1408 .bf16) (harg19 : arg19.IsWhole) (arg20 : Memref sig .tc .vmem S512x128 .bf16) (harg20 : arg20.IsWhole) (arg21 : Memref sig .tc .vmem S640x128 .bf16) (harg21 : arg21.IsWhole) (arg22 : Memref sig .tc .vmem S640x128 .bf16) (harg22 : arg22.IsWhole)
    (x0 : Vec Ideal S8 .f32) (x1 : Vec Ideal S128x1024 .f32) (x2 : Vec Ideal S128x256 .f32) (x3 : Vec Ideal S128x256 .f32) (x4 : Vec Ideal S128x256 .f32) (x5 : Vec Ideal S128x256 .f32) (x6 : Vec Ideal S128x256 .f32) (x7 : Vec Ideal S128x256 .f32) (x8 : Vec Ideal S256x256 .f32) (x9 : Vec Ideal S256x256 .f32) (x10 : Vec Ideal S128x128 .f32) (x11 : Vec Ideal S128x128 .f32) (x12 : Vec Ideal S128x128 .f32) (x13 : Vec Ideal S128x128 .f32) (x14 : Vec Ideal S128x128 .f32) (x15 : Vec Ideal S128x128 .f32) (x16 : Vec Ideal S512x1408 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 = k0_pay3 x16 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.canon_unit_zero (funext fun a => by fin_cases a <;> rfl), View.ld_unit_zero (funext fun a => by fin_cases a <;> rfl)]

theorem pay3_apply (v : Vec Ideal S512x1408 .f32) (p : Fin 512) (l : Fin 1408) : k0_pay3 v (ix2 p l) = v (ix2 p l) := by
  pointwise [k0_pay3]

/-- An index of the activations, by its coordinates. -/
theorem rd_at (x : S8448x2560.Idx → EReal) (e : S8448x2560.Idx) (r c : ℕ) (h0 : (e 0).val = r) (h1 : (e 1).val = c) : x e = Row.rd x r c := by
  subst h0 h1
  have : e = ix2 (e 0) (e 1) := funext fun a => match a with
    | ⟨0, _⟩ => rfl
    | ⟨1, _⟩ => rfl
  rw [this]
  exact Row.rd_mk x _ _

variable (m : (ℓ : Loc nD τ sig) → Buf (Elt Ideal) ℓ)

theorem cos_at (c : Dev nD) (e : S8448x128.Idx) (r : ℕ) (l : Fin 128) (h0 : (e 0).val = r) (h1 : (e 1).val = l.val) : V m c main_v40 e = Row.cosT r l := by
  subst h0
  obtain rfl : l = e 1 := Fin.ext h1.symm
  have : e = ix2 (e 0) (e 1) := funext fun a => match a with
    | ⟨0, _⟩ => rfl
    | ⟨1, _⟩ => rfl
  rw [this]
  exact cosTab m c _ _

theorem sin_at (c : Dev nD) (e : S8448x128.Idx) (r : ℕ) (l : Fin 128) (h0 : (e 0).val = r) (h1 : (e 1).val = l.val) : V m c main_v42 e = Row.sinT r l := by
  subst h0
  obtain rfl : l = e 1 := Fin.ext h1.symm
  have : e = ix2 (e 0) (e 1) := funext fun a => match a with
    | ⟨0, _⟩ => rfl
    | ⟨1, _⟩ => rfl
  rw [this]
  exact sinTab m c _ _

theorem coord (t : Fin cfg0.N) : (grid0.coords t 0).val = t.val := by
  have h : ∀ t : Fin grid0.N, (grid0.coords t 0).val = t.val := by decide +kernel
  exact h t

/-- Where each window's block starts, in blocks. -/
theorem starts (t : Fin grid0.N) :
    (win0_1.index t 0 = t.val ∧ win0_1.index t 1 = 0)
    ∧ (win0_2.index t 0 = t.val - 1 ∧ win0_2.index t 1 = 8)
    ∧ (win0_3.index t 0 = t.val ∧ win0_3.index t 1 = 8)
    ∧ (win0_4.index t 0 = min (t.val + 1) 65 ∧ win0_4.index t 1 = 8)
    ∧ (win0_5.index t 0 = t.val - 1 ∧ win0_5.index t 1 = 9)
    ∧ (win0_6.index t 0 = t.val ∧ win0_6.index t 1 = 9)
    ∧ (win0_7.index t 0 = min (t.val + 1) 65 ∧ win0_7.index t 1 = 9)
    ∧ (win0_8.index t 0 = 0 ∧ win0_8.index t 1 = 8)
    ∧ (win0_9.index t 0 = 0 ∧ win0_9.index t 1 = 9)
    ∧ (win0_10.index t 0 = t.val - 1 ∧ win0_10.index t 1 = 0)
    ∧ (win0_11.index t 0 = t.val ∧ win0_11.index t 1 = 0)
    ∧ (win0_12.index t 0 = min (t.val + 1) 65 ∧ win0_12.index t 1 = 0)
    ∧ (win0_13.index t 0 = t.val - 1 ∧ win0_13.index t 1 = 0)
    ∧ (win0_14.index t 0 = t.val ∧ win0_14.index t 1 = 0)
    ∧ (win0_15.index t 0 = min (t.val + 1) 65 ∧ win0_15.index t 1 = 0)
    ∧ (win0_16.index t 0 = 64 + min t.val 63 ∧ win0_16.index t 1 = 0)
    ∧ (win0_17.index t 0 = t.val ∧ win0_17.index t 1 = 0)
    ∧ (win0_18.index t 0 = min t.val 63 ∧ win0_18.index t 1 = 0) := by
  revert t
  decide +kernel

/-- A window whose block is `(a, b)` blocks in, at an index of the block. -/
theorem emb_at {w : Window sig grid0} (t : Fin grid0.N) (y : (w.xblock (grid0.coords t)).Idx) (a : Fin w.shape.rank) (s n p : ℕ) (hk : w.kind = .blocked)
    (hs : w.size a = s) (hi : w.index t a = n) (hp : (y a).val = p) : (((w.rect t).emb y) a : ℕ) = n * s + p := by
  rw [Window.rect_emb_val w t y a hk, hs, hi, hp]

theorem blk1 (c : Dev nD) (t : Fin cfg0.N) (p : Fin 128) (l : Fin 1024) : X0_1 m c t (ix2 p l) = Row.rd (m ((c : Thread nD τ).loc main_arg0)) (128 * t.val + p.val) (l.val) := by
  unfold X0_1 Pipeline.Window.fill
  rw [dif_pos (moved0_1 t _)]
  refine (congrFun (V_main_arg0 m c) _).trans (rd_at _ _ _ _ ?_ ?_)
  · refine (emb_at (w := win0_1) t _ 0 128 (t.val) p.val rfl rfl (starts t).1.1 rfl).trans (by omega)
  · refine (emb_at (w := win0_1) t _ 1 1024 0 l.val rfl rfl (starts t).1.2 rfl).trans (by omega)

theorem blk2 (c : Dev nD) (t : Fin cfg0.N) (p : Fin 128) (l : Fin 256) : iblk m c 2 t (ix2 p l) = Row.rd (m ((c : Thread nD τ).loc main_arg0)) (128 * (t.val - 1) + p.val) (2048 + l.val) := by
  refine (congrFun (V_main_arg0 m c) _).trans (rd_at _ _ _ _ ?_ ?_)
  · refine (emb_at (w := win0_2) t _ 0 128 (t.val - 1) p.val rfl rfl (starts t).2.1.1 rfl).trans (by omega)
  · refine (emb_at (w := win0_2) t _ 1 256 8 l.val rfl rfl (starts t).2.1.2 rfl).trans (by omega)

theorem blk3 (c : Dev nD) (t : Fin cfg0.N) (p : Fin 128) (l : Fin 256) : iblk m c 3 t (ix2 p l) = Row.rd (m ((c : Thread nD τ).loc main_arg0)) (128 * t.val + p.val) (2048 + l.val) := by
  refine (congrFun (V_main_arg0 m c) _).trans (rd_at _ _ _ _ ?_ ?_)
  · refine (emb_at (w := win0_3) t _ 0 128 (t.val) p.val rfl rfl (starts t).2.2.1.1 rfl).trans (by omega)
  · refine (emb_at (w := win0_3) t _ 1 256 8 l.val rfl rfl (starts t).2.2.1.2 rfl).trans (by omega)

theorem blk4 (c : Dev nD) (t : Fin cfg0.N) (p : Fin 128) (l : Fin 256) : iblk m c 4 t (ix2 p l) = Row.rd (m ((c : Thread nD τ).loc main_arg0)) (128 * min (t.val + 1) 65 + p.val) (2048 + l.val) := by
  refine (congrFun (V_main_arg0 m c) _).trans (rd_at _ _ _ _ ?_ ?_)
  · refine (emb_at (w := win0_4) t _ 0 128 (min (t.val + 1) 65) p.val rfl rfl (starts t).2.2.2.1.1 rfl).trans (by omega)
  · refine (emb_at (w := win0_4) t _ 1 256 8 l.val rfl rfl (starts t).2.2.2.1.2 rfl).trans (by omega)

theorem blk5 (c : Dev nD) (t : Fin cfg0.N) (p : Fin 128) (l : Fin 256) : iblk m c 5 t (ix2 p l) = Row.rd (m ((c : Thread nD τ).loc main_arg0)) (128 * (t.val - 1) + p.val) (2304 + l.val) := by
  refine (congrFun (V_main_arg0 m c) _).trans (rd_at _ _ _ _ ?_ ?_)
  · refine (emb_at (w := win0_5) t _ 0 128 (t.val - 1) p.val rfl rfl (starts t).2.2.2.2.1.1 rfl).trans (by omega)
  · refine (emb_at (w := win0_5) t _ 1 256 9 l.val rfl rfl (starts t).2.2.2.2.1.2 rfl).trans (by omega)

theorem blk6 (c : Dev nD) (t : Fin cfg0.N) (p : Fin 128) (l : Fin 256) : iblk m c 6 t (ix2 p l) = Row.rd (m ((c : Thread nD τ).loc main_arg0)) (128 * t.val + p.val) (2304 + l.val) := by
  refine (congrFun (V_main_arg0 m c) _).trans (rd_at _ _ _ _ ?_ ?_)
  · refine (emb_at (w := win0_6) t _ 0 128 (t.val) p.val rfl rfl (starts t).2.2.2.2.2.1.1 rfl).trans (by omega)
  · refine (emb_at (w := win0_6) t _ 1 256 9 l.val rfl rfl (starts t).2.2.2.2.2.1.2 rfl).trans (by omega)

theorem blk7 (c : Dev nD) (t : Fin cfg0.N) (p : Fin 128) (l : Fin 256) : iblk m c 7 t (ix2 p l) = Row.rd (m ((c : Thread nD τ).loc main_arg0)) (128 * min (t.val + 1) 65 + p.val) (2304 + l.val) := by
  refine (congrFun (V_main_arg0 m c) _).trans (rd_at _ _ _ _ ?_ ?_)
  · refine (emb_at (w := win0_7) t _ 0 128 (min (t.val + 1) 65) p.val rfl rfl (starts t).2.2.2.2.2.2.1.1 rfl).trans (by omega)
  · refine (emb_at (w := win0_7) t _ 1 256 9 l.val rfl rfl (starts t).2.2.2.2.2.2.1.2 rfl).trans (by omega)

theorem blk8 (c : Dev nD) (t : Fin cfg0.N) (p : Fin 256) (l : Fin 256) : iblk m c 8 t (ix2 p l) = Row.rd (m ((c : Thread nD τ).loc main_arg0)) (p.val) (2048 + l.val) := by
  refine (congrFun (V_main_arg0 m c) _).trans (rd_at _ _ _ _ ?_ ?_)
  · refine (emb_at (w := win0_8) t _ 0 256 (0) p.val rfl rfl (starts t).2.2.2.2.2.2.2.1.1 rfl).trans (by omega)
  · refine (emb_at (w := win0_8) t _ 1 256 8 l.val rfl rfl (starts t).2.2.2.2.2.2.2.1.2 rfl).trans (by omega)

theorem blk9 (c : Dev nD) (t : Fin cfg0.N) (p : Fin 256) (l : Fin 256) : iblk m c 9 t (ix2 p l) = Row.rd (m ((c : Thread nD τ).loc main_arg0)) (p.val) (2304 + l.val) := by
  refine (congrFun (V_main_arg0 m c) _).trans (rd_at _ _ _ _ ?_ ?_)
  · refine (emb_at (w := win0_9) t _ 0 256 (0) p.val rfl rfl (starts t).2.2.2.2.2.2.2.2.1.1 rfl).trans (by omega)
  · refine (emb_at (w := win0_9) t _ 1 256 9 l.val rfl rfl (starts t).2.2.2.2.2.2.2.2.1.2 rfl).trans (by omega)

theorem blk10 (c : Dev nD) (t : Fin cfg0.N) (p : Fin 128) (l : Fin 128) : iblk m c 10 t (ix2 p l) = Row.cosT (128 * (t.val - 1) + p.val) l := by
  refine cos_at m c _ _ _ ?_ ?_
  · refine (emb_at (w := win0_10) t _ 0 128 (t.val - 1) p.val rfl rfl (starts t).2.2.2.2.2.2.2.2.2.1.1 rfl).trans (by omega)
  · refine (emb_at (w := win0_10) t _ 1 128 0 l.val rfl rfl (starts t).2.2.2.2.2.2.2.2.2.1.2 rfl).trans (by omega)

theorem blk11 (c : Dev nD) (t : Fin cfg0.N) (p : Fin 128) (l : Fin 128) : iblk m c 11 t (ix2 p l) = Row.cosT (128 * t.val + p.val) l := by
  refine cos_at m c _ _ _ ?_ ?_
  · refine (emb_at (w := win0_11) t _ 0 128 (t.val) p.val rfl rfl (starts t).2.2.2.2.2.2.2.2.2.2.1.1 rfl).trans (by omega)
  · refine (emb_at (w := win0_11) t _ 1 128 0 l.val rfl rfl (starts t).2.2.2.2.2.2.2.2.2.2.1.2 rfl).trans (by omega)

theorem blk12 (c : Dev nD) (t : Fin cfg0.N) (p : Fin 128) (l : Fin 128) : iblk m c 12 t (ix2 p l) = Row.cosT (128 * min (t.val + 1) 65 + p.val) l := by
  refine cos_at m c _ _ _ ?_ ?_
  · refine (emb_at (w := win0_12) t _ 0 128 (min (t.val + 1) 65) p.val rfl rfl (starts t).2.2.2.2.2.2.2.2.2.2.2.1.1 rfl).trans (by omega)
  · refine (emb_at (w := win0_12) t _ 1 128 0 l.val rfl rfl (starts t).2.2.2.2.2.2.2.2.2.2.2.1.2 rfl).trans (by omega)

theorem blk13 (c : Dev nD) (t : Fin cfg0.N) (p : Fin 128) (l : Fin 128) : iblk m c 13 t (ix2 p l) = Row.sinT (128 * (t.val - 1) + p.val) l := by
  refine sin_at m c _ _ _ ?_ ?_
  · refine (emb_at (w := win0_13) t _ 0 128 (t.val - 1) p.val rfl rfl (starts t).2.2.2.2.2.2.2.2.2.2.2.2.1.1 rfl).trans (by omega)
  · refine (emb_at (w := win0_13) t _ 1 128 0 l.val rfl rfl (starts t).2.2.2.2.2.2.2.2.2.2.2.2.1.2 rfl).trans (by omega)

theorem blk14 (c : Dev nD) (t : Fin cfg0.N) (p : Fin 128) (l : Fin 128) : iblk m c 14 t (ix2 p l) = Row.sinT (128 * t.val + p.val) l := by
  refine sin_at m c _ _ _ ?_ ?_
  · refine (emb_at (w := win0_14) t _ 0 128 (t.val) p.val rfl rfl (starts t).2.2.2.2.2.2.2.2.2.2.2.2.2.1.1 rfl).trans (by omega)
  · refine (emb_at (w := win0_14) t _ 1 128 0 l.val rfl rfl (starts t).2.2.2.2.2.2.2.2.2.2.2.2.2.1.2 rfl).trans (by omega)

theorem blk15 (c : Dev nD) (t : Fin cfg0.N) (p : Fin 128) (l : Fin 128) : iblk m c 15 t (ix2 p l) = Row.sinT (128 * min (t.val + 1) 65 + p.val) l := by
  refine sin_at m c _ _ _ ?_ ?_
  · refine (emb_at (w := win0_15) t _ 0 128 (min (t.val + 1) 65) p.val rfl rfl (starts t).2.2.2.2.2.2.2.2.2.2.2.2.2.2.1.1 rfl).trans (by omega)
  · refine (emb_at (w := win0_15) t _ 1 128 0 l.val rfl rfl (starts t).2.2.2.2.2.2.2.2.2.2.2.2.2.2.1.2 rfl).trans (by omega)

/-- The sinks' block is the whole vector. -/
theorem blk0 (c : Dev nD) (t : Fin cfg0.N) (k : Fin 8) : iblk m c 0 t (ix1 k) = m ((c : Thread nD τ).loc main_arg1) (ix1 k) := by
  refine (congrFun (V_main_arg1 m c) _).trans (congrArg _ ?_)
  have h : ∀ t : Fin grid0.N, win0_0.index t 0 = 0 := by decide +kernel
  funext a
  match a with
  | ⟨0, _⟩ => exact Fin.ext (Window.rect_emb_val_of_index_zero win0_0 t 0 (h t) _)

/-- The copied weights' block. -/
theorem blk16 (c : Dev nD) (t : Fin cfg0.N) (p : Fin 512) (l : Fin 1408) :
    iblk m c 16 t (ix2 p l) = m ((c : Thread nD τ).loc main_arg2) (ix4 1 ⟨(512 * min t.val 63 + p.val) / 2048, by omega⟩ ⟨(512 * min t.val 63 + p.val) % 2048, by omega⟩ l) := by
  show V m c main_v43 ((win0_16.rect t).emb (ix2 p l)) = _
  have hr : 512 * (64 + min t.val 63) + p.val < 131072 := by omega
  have e : (win0_16.rect t).emb (ix2 p l) = ix2 ⟨512 * (64 + min t.val 63) + p.val, hr⟩ l := funext fun a => match a with
    | ⟨0, _⟩ => Fin.ext ((emb_at (w := win0_16) t _ 0 512 (64 + min t.val 63) p.val rfl rfl (starts t).2.2.2.2.2.2.2.2.2.2.2.2.2.2.2.1.1 rfl).trans (by show _ = 512 * (64 + min t.val 63) + p.val; omega))
    | ⟨1, _⟩ => Fin.ext ((emb_at (w := win0_16) t _ 1 1408 0 l.val rfl rfl (starts t).2.2.2.2.2.2.2.2.2.2.2.2.2.2.2.1.2 rfl).trans (by show _ = l.val; omega))
  rw [e, wTab]
  refine congrArg _ (funext fun a => match a with
    | ⟨0, _⟩ => Fin.ext (by show (512 * (64 + min t.val 63) + p.val) / 32768 = 1; omega)
    | ⟨1, _⟩ => Fin.ext (by show (512 * (64 + min t.val 63) + p.val) / 2048 % 16 = (512 * min t.val 63 + p.val) / 2048; omega)
    | ⟨2, _⟩ => Fin.ext (by show (512 * (64 + min t.val 63) + p.val) % 2048 = (512 * min t.val 63 + p.val) % 2048; omega)
    | ⟨3, _⟩ => rfl)

/-- The attention of device `c`'s activations and sinks. -/
def G17 (c : Dev nD) : S8448x1024.Idx → EReal := fun j =>
  Row.att (m ((c : Thread nD τ).loc main_arg0)) (m ((c : Thread nD τ).loc main_arg1) (ix1 ⟨(j 1).val / 128, Nat.div_lt_of_lt_mul (j 1).isLt⟩))
    (j 0).val ((j 1).val / 128) ((j 1).val % 128)

/-- Point `t`'s block of the attention. -/
theorem att_blk (c : Dev nD) (t : Fin cfg0.N) (p : Fin 128) (l : Fin 1024) :
    cols (fun a => cut ⟨a.val % 4, by omega⟩ (grp (grid0.coords t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨a.val / 4, by omega⟩)) (ix2 p l)
      = Row.att (m ((c : Thread nD τ).loc main_arg0)) (m ((c : Thread nD τ).loc main_arg1) (ix1 ⟨l.val / 128, by omega⟩)) (128 * t.val + p.val) (l.val / 128) (l.val % 128) := by
  refine (grp_apply (m ((c : Thread nD τ).loc main_arg0)) (grid0.coords t) t.val (coord t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t)
    ⟨l.val / 128 / 4, by omega⟩ ⟨l.val / 128 % 4, by omega⟩ p ⟨l.val % 128, by omega⟩).trans ?_
  have e : hd ⟨l.val / 128 / 4, by omega⟩ ⟨l.val / 128 % 4, by omega⟩ = ⟨l.val / 128, by omega⟩ := Fin.ext (by unfold hd; dsimp only; omega)
  rw [e, blk0]
  dsimp only
  rw [show 4 * (l.val / 128 / 4) + l.val / 128 % 4 = l.val / 128 by omega]

/-- An array read through an output block, at an index of the block. -/
theorem flushed17 (c : Dev nD) (t : Fin cfg0.N) : (dats m 0 c).flushed 17 t = ((cfg0.win 17).blk t).view.read (Elt Ideal) (G17 m c) := by
  rw [Value.flushed17_A, out_eq]
  funext y
  have hp : (y 0).val < 128 := (y 0).isLt
  have hl : (y 1).val < 1024 := (y 1).isLt
  have hy : (cfg0.win 17).xinj (grid0.coords t) y = ix2 (⟨(y 0).val, hp⟩ : Fin 128) (⟨(y 1).val, hl⟩ : Fin 1024) := funext fun a => match a with
    | ⟨0, _⟩ => rfl
    | ⟨1, _⟩ => rfl
  refine (congrArg _ hy).trans ((att_blk m c t _ _).trans ?_)
  show _ = G17 m c ((win0_17.rect t).emb y)
  have e0 : (((win0_17.rect t).emb y) 0 : ℕ) = 128 * t.val + (y 0).val := (emb_at (w := win0_17) t y 0 128 t.val (y 0).val rfl rfl (starts t).2.2.2.2.2.2.2.2.2.2.2.2.2.2.2.2.1.1 rfl).trans (by omega)
  have e1 : (((win0_17.rect t).emb y) 1 : ℕ) = (y 1).val := (emb_at (w := win0_17) t y 1 1024 0 (y 1).val rfl rfl (starts t).2.2.2.2.2.2.2.2.2.2.2.2.2.2.2.2.1.2 rfl).trans (by omega)
  unfold G17
  simp only [e0, e1]

/-- The copied weights. -/
def G18 (c : Dev nD) : S32768x1408.Idx → EReal := fun j =>
  m ((c : Thread nD τ).loc main_arg2) (ix4 1 ⟨(j 0).val / 2048, Nat.div_lt_of_lt_mul (j 0).isLt⟩ ⟨(j 0).val % 2048, Nat.mod_lt _ (by decide)⟩ (j 1))

theorem flushed18 (c : Dev nD) (t : Fin cfg0.N) : (dats m 0 c).flushed 18 t = ((cfg0.win 18).blk t).view.read (Elt Ideal) (G18 m c) := by
  rw [Value.flushed18_A, copy_eq]
  funext y
  have hp : (y 0).val < 512 := (y 0).isLt
  have hl : (y 1).val < 1408 := (y 1).isLt
  have hy : (cfg0.win 18).xinj (grid0.coords t) y = ix2 (⟨(y 0).val, hp⟩ : Fin 512) (⟨(y 1).val, hl⟩ : Fin 1408) := funext fun a => match a with
    | ⟨0, _⟩ => rfl
    | ⟨1, _⟩ => rfl
  refine (congrArg (k0_pay3 (iblk m c 16 t)) hy).trans ((pay3_apply _ _ _).trans ((blk16 m c t _ _).trans ?_))
  show _ = G18 m c ((win0_18.rect t).emb y)
  have e0 : (((win0_18.rect t).emb y) 0 : ℕ) = 512 * min t.val 63 + (y 0).val := (emb_at (w := win0_18) t y 0 512 (min t.val 63) (y 0).val rfl rfl (starts t).2.2.2.2.2.2.2.2.2.2.2.2.2.2.2.2.2.1 rfl).trans (by omega)
  have e1 : (((win0_18.rect t).emb y) 1 : ℕ) = (y 1).val := (emb_at (w := win0_18) t y 1 1408 0 (y 1).val rfl rfl (starts t).2.2.2.2.2.2.2.2.2.2.2.2.2.2.2.2.2.2 rfl).trans (by omega)
  unfold G18
  refine congrArg _ (funext fun a => match a with
    | ⟨0, _⟩ => rfl
    | ⟨1, _⟩ => Fin.ext (congrArg (· / 2048) e0.symm)
    | ⟨2, _⟩ => Fin.ext (congrArg (· % 2048) e0.symm)
    | ⟨3, _⟩ => Fin.ext e1.symm)

/-- The rows a point of the attention's window covers. -/
theorem cover17 (i : S8448x1024.Idx) : ∃ t : Fin cfg0.N, (cfg0.win 17).flush t = true ∧ i ∈ ((cfg0.win 17).blk t).view.set := by
  have h0 : (i 0).val < 8448 := (i 0).isLt
  have h1 : (i 1).val < 1024 := (i 1).isLt
  have hN : cfg0.N = 66 := N_0
  have ht : (i 0).val / 128 < cfg0.N := by omega
  refine ⟨⟨(i 0).val / 128, ht⟩, flush0_17 _, ?_⟩
  show i ∈ ((View.whole main_v44_0).slice (win0_17.rect ⟨(i 0).val / 128, ht⟩)).set
  rw [View.set_slice_whole, Rect.mem_set_unit]
  have hx : ∀ t : Fin grid0.N, win0_17.xsize (grid0.coords t) 0 = 128 ∧ win0_17.xsize (grid0.coords t) 1 = 1024 := by decide +kernel
  have hs := (starts ⟨(i 0).val / 128, ht⟩).2.2.2.2.2.2.2.2.2.2.2.2.2.2.2.2.1
  have hx := hx ⟨(i 0).val / 128, ht⟩
  intro a
  match a with
  | ⟨0, _⟩ =>
    show win0_17.index _ 0 * 128 ≤ (i 0 : ℕ) ∧ (i 0 : ℕ) < win0_17.index _ 0 * 128 + win0_17.xsize _ 0
    rw [hs.1, hx.1]; dsimp only; omega
  | ⟨1, _⟩ =>
    show win0_17.index _ 1 * 1024 ≤ (i 1 : ℕ) ∧ (i 1 : ℕ) < win0_17.index _ 1 * 1024 + win0_17.xsize _ 1
    rw [hs.2, hx.2]; omega

/-- The copied weights' blocks cover their array: the last three points share the last block, which the last of them writes back. -/
theorem cover18 (i : S32768x1408.Idx) : ∃ t : Fin cfg0.N, (cfg0.win 18).flush t = true ∧ i ∈ ((cfg0.win 18).blk t).view.set := by
  have h0 : (i 0).val < 32768 := (i 0).isLt
  have h1 : (i 1).val < 1408 := (i 1).isLt
  have hN : cfg0.N = 66 := N_0
  have hf : ∀ t : Fin grid0.N, (t.val < 63 ∨ t.val = 65) → win0_18.flush t = true := by decide +kernel
  have hx : ∀ t : Fin grid0.N, win0_18.xsize (grid0.coords t) 0 = 512 ∧ win0_18.xsize (grid0.coords t) 1 = 1408 := by decide +kernel
  obtain ⟨t, htf, htm⟩ : ∃ t : Fin cfg0.N, (t.val < 63 ∨ t.val = 65) ∧ min t.val 63 = (i 0).val / 512 := by
    by_cases h : (i 0).val / 512 < 63
    · exact ⟨⟨(i 0).val / 512, by omega⟩, Or.inl h, by dsimp only; omega⟩
    · exact ⟨⟨65, by omega⟩, Or.inr rfl, by dsimp only; omega⟩
  refine ⟨t, hf t htf, ?_⟩
  show i ∈ ((View.whole main_v44_1).slice (win0_18.rect t)).set
  rw [View.set_slice_whole, Rect.mem_set_unit]
  have hs := (starts t).2.2.2.2.2.2.2.2.2.2.2.2.2.2.2.2.2
  have hx := hx t
  intro a
  match a with
  | ⟨0, _⟩ =>
    show win0_18.index _ 0 * 512 ≤ (i 0 : ℕ) ∧ (i 0 : ℕ) < win0_18.index _ 0 * 512 + win0_18.xsize _ 0
    rw [hs.1, hx.1, htm]; omega
  | ⟨1, _⟩ =>
    show win0_18.index _ 1 * 1408 ≤ (i 1 : ℕ) ∧ (i 1 : ℕ) < win0_18.index _ 1 * 1408 + win0_18.xsize _ 1
    rw [hs.2, hx.2]; omega

/-- The kernel's run: the attention in the first result, the copied weights in the second, the arguments kept. -/
theorem run (ρ : Dev nD → PrngReg) : θ_run defs (onTc (τ := τ) (main (F := Ideal))) ⟨m, fun _ => 0, ρ⟩ fun r => ∀ c : Dev nD,
      r.2.mem ((c : Thread nD τ).loc main_v44_0) = G17 m c
      ∧ r.2.mem ((c : Thread nD τ).loc main_v44_1) = G18 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 17 (G17 m c) (fun t _ => flushed17 m c t) cover17),
      (h c).2.1.trans ((dats m 0 c).arrAt_eq_of_cover 18 (G18 m c) (fun t _ => flushed18 m c t) cover18), (h c).2.2⟩) (Value.run_blocks m ρ)

end Cert.KernelIdeal.Blk

end
-- ==== Proof.Finite.lean ====
/-
  What the precondition says: the queries, the keys and the sinks are finite.
-/
module

public import proofs.«01_k».proof.Pre_finite_scores
public import proofs.«01_k».proof.Proof.Spec
public import Idealize.ShloMosaic.Lib.Tactic.CleanTypes

@[expose] public section

set_option maxRecDepth 16384

noncomputable section

namespace Cert.Pre_finite_scores.Finite

open Cert.Pre_finite_scores Idealize.ShloMosaic

/-- The shape relations the precondition's operations take. -/
theorem facts : Facts where
  slices_S8448x2560_S8448x1024_0_0 := by decide
  bcast_S_S8448x1024 := by decide
  slices_S8448x2560_S8448x256_0_2048 := by decide
  bcast_S_S8448x256 := by decide
  bcast_S_S8 := by decide

variable [Facts] (x : FVec Ideal S8448x2560 .f32) (s : FVec Ideal S8 .f32) (w : FVec Ideal S4x16x2048x1408 .f32)

theorem word_inf : Ideal.ofBits .f32 0x7F800000#32 = ⊤ := by
  simp [Ideal.ofBits, Ideal.ieee]

/-- A value whose magnitude compares below `+∞` is finite. -/
theorem of_word {y : EReal} (h : BitVec.ofBool (decide (FloatOps.absf (F := Ideal) (φ := .f32) y < Ideal.ofBits .f32 0x7F800000#32)) = 1#1) : Row.Fin' y := by
  rw [word_inf] at h
  by_cases hy : FloatOps.absf (F := Ideal) (φ := .f32) y < ⊤
  · exact Row.Fin'.of_abs hy
  · rw [decide_eq_false hy] at h
    exact absurd h (by decide)

/-- The queries and the keys are finite. -/
theorem good (h0 : (fn (F := Ideal) x s w).1 = fun _ => 1#1) (h1 : (fn (F := Ideal) x s w).2.1 = fun _ => 1#1) : Row.Good x := by
  intro r c hc
  unfold Row.rd
  split
  · rename_i hr
    obtain ⟨hr, hc'⟩ := hr
    rcases hc with hc | ⟨hc, hc''⟩
    · have h := congrFun h0 (ix2 ⟨r, hr⟩ ⟨c, hc⟩)
      unfold fn at h
      pointwise at h
      exact of_word h
    · have h := congrFun h1 (ix2 ⟨r, hr⟩ ⟨c - 2048, by omega⟩)
      unfold fn at h
      pointwise at h
      have e : (⟨2048 + (c - 2048), by omega⟩ : Fin 2560) = ⟨c, hc'⟩ := Fin.ext (by dsimp only; omega)
      rw [e] at h
      exact of_word h
  · exact ⟨0, by simp⟩

/-- The sinks are finite. -/
theorem sink (h : (fn (F := Ideal) x s w).2.2 = fun _ => 1#1) (a : Fin 8) : Row.Fin' (s (ix1 a)) := by
  have h := congrFun h (ix1 a)
  unfold fn at h
  pointwise at h
  exact of_word h

end Cert.Pre_finite_scores.Finite

end
-- ==== Proof.RefRope.lean ====
/-
  The reference's rotated queries and keys, its bands of keys and values, and its two kinds of scores, read
  at an index.
-/
module

public import proofs.«01_k».proof.Proof.Gen.ReferenceIdeal.Read
public import proofs.«01_k».proof.Proof.Spec
public import Idealize.ShloMosaic.Lib.Tactic.CleanTypes

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem

variable (x0 : FVec Ideal S8448x2560 .f32) (x1 : FVec Ideal S8 .f32)

theorem word_zero : Ideal.ofBits .f32 0x00000000#32 = 0 := by
  simp [Ideal.ofBits, Ideal.ieee]

/-- The angle of a token's row. -/
theorem row_angle (t : Fin 8192) (k : Fin 32) : val_main_v37 (F := Ideal) (ix2 t k) = Row.ang (t.val / 64) k.val := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst, val_main_cst_0, val_main_cst_1, val_main_cst_2]
  rfl

/-- The angle of a token's column. -/
theorem col_angle (t : Fin 8192) (k : Fin 32) : val_main_v42 (F := Ideal) (ix2 t k) = Row.ang (t.val % 64) k.val := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst, val_main_cst_0, val_main_cst_1, val_main_cst_2]
  rfl

theorem v43_at (t : Fin 8192) (k : Fin 32) : val_main_v43 (F := Ideal) (ix2 t k) = Ideal.cos (Row.ang (t.val / 64) k.val) := by
  rw [val_main_v43_apply, row_angle]; rfl
theorem v44_at (t : Fin 8192) (k : Fin 32) : val_main_v44 (F := Ideal) (ix2 t k) = Ideal.sin (Row.ang (t.val / 64) k.val) := by
  rw [val_main_v44_apply, row_angle]; rfl
theorem v45_at (t : Fin 8192) (k : Fin 32) : val_main_v45 (F := Ideal) (ix2 t k) = Ideal.cos (Row.ang (t.val % 64) k.val) := by
  rw [val_main_v45_apply, col_angle]; rfl
theorem v46_at (t : Fin 8192) (k : Fin 32) : val_main_v46 (F := Ideal) (ix2 t k) = Ideal.sin (Row.ang (t.val % 64) k.val) := by
  rw [val_main_v46_apply, col_angle]; rfl

theorem add_neg_mul (a b c : EReal) : a - b * c = a + b * -c := by
  rw [sub_eq_add_neg, mul_neg]

/-- A head turned, half by half: `f` its lanes, `t` its token. -/
theorem turned (f : ℕ → EReal) (t e : ℕ) (he : e < 128) :
    (if h : e < 64 then
        if h : e < 32 then f e * Ideal.cos (Row.ang (t / 64) e) - f (32 + e) * Ideal.sin (Row.ang (t / 64) e)
        else f (32 + (e - 32)) * Ideal.cos (Row.ang (t / 64) (e - 32)) + f (e - 32) * Ideal.sin (Row.ang (t / 64) (e - 32))
      else
        if h : e - 64 < 32 then f (64 + (e - 64)) * Ideal.cos (Row.ang (t % 64) (e - 64)) - f (64 + (32 + (e - 64))) * Ideal.sin (Row.ang (t % 64) (e - 64))
        else f (64 + (32 + (e - 64 - 32))) * Ideal.cos (Row.ang (t % 64) (e - 64 - 32)) + f (64 + (e - 64 - 32)) * Ideal.sin (Row.ang (t % 64) (e - 64 - 32)))
    = (f e * if 256 + t < 256 then 1 else Ideal.cos (Row.ang (if e < 64 then (256 + t - 256) / 64 else (256 + t - 256) % 64) (e % 32))) +
      f (if e % 64 < 32 then e + 32 else e - 32) *
        if 256 + t < 256 then 0
        else if e % 64 < 32 then -Ideal.sin (Row.ang (if e < 64 then (256 + t - 256) / 64 else (256 + t - 256) % 64) (e % 32))
          else Ideal.sin (Row.ang (if e < 64 then (256 + t - 256) / 64 else (256 + t - 256) % 64) (e % 32)) := by
  rw [if_neg (show ¬ 256 + t < 256 by omega), if_neg (show ¬ 256 + t < 256 by omega), Nat.add_sub_cancel_left]
  by_cases h1 : e < 64
  · rw [dif_pos h1, if_pos h1]
    by_cases h2 : e < 32
    · rw [dif_pos h2, if_pos (show e % 64 < 32 by omega), if_pos (show e % 64 < 32 by omega), add_neg_mul, show e % 32 = e by omega, Nat.add_comm 32 e]
    · rw [dif_neg h2, if_neg (show ¬ e % 64 < 32 by omega), if_neg (show ¬ e % 64 < 32 by omega), show e % 32 = e - 32 by omega, show 32 + (e - 32) = e by omega]
  · rw [dif_neg h1, if_neg h1]
    by_cases h2 : e - 64 < 32
    · rw [dif_pos h2, if_pos (show e % 64 < 32 by omega), if_pos (show e % 64 < 32 by omega), add_neg_mul, show e % 32 = e - 64 by omega, show 64 + (e - 64) = e by omega,
        show 64 + (32 + (e - 64)) = e + 32 by omega]
    · rw [dif_neg h2, if_neg (show ¬ e % 64 < 32 by omega), if_neg (show ¬ e % 64 < 32 by omega), show e % 32 = e - 64 - 32 by omega,
        show 64 + (32 + (e - 64 - 32)) = e by omega, show 64 + (e - 64 - 32) = e - 32 by omega]

/-- A rotated query. -/
theorem query_at (t : Fin 8192) (a : Fin 8) (e : Fin 128) :
    val_main_v79 (F := Ideal) x0 (ix4 0 t a e) = Row.rot x0 (256 + t.val) (128 * a.val) e := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v12, val_main_v2, val_main_v1, val_main_v0]
  simp only [v43_at, v44_at, v45_at, v46_at, Row.rd_mk x0, Row.rot, Row.cosT, Row.sinT, Row.place, Row.lane, Cert.KernelIdeal.Blk.swap]
  rw [Nat.mul_comm 128 a.val]
  exact turned (fun l => Row.rd x0 (256 + t.val) (a.val * 128 + l)) t.val e.val e.isLt

/-- A rotated key. -/
theorem key_at (t : Fin 8192) (g : Fin 2) (e : Fin 128) :
    val_main_v112 (F := Ideal) x0 (ix4 0 t g e) = Row.rot x0 (256 + t.val) (2048 + 128 * g.val) e := by
  pointwise [val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v13, val_main_v5, val_main_v4, val_main_v3]
  simp only [v43_at, v44_at, v45_at, v46_at, Row.rd_mk x0, Row.rot, Row.cosT, Row.sinT, Row.place, Row.lane, Cert.KernelIdeal.Blk.swap]
  rw [Nat.mul_comm 128 g.val, Nat.add_assoc, Nat.add_assoc]
  exact turned (fun l => Row.rd x0 (256 + t.val) (2048 + (g.val * 128 + l))) t.val e.val e.isLt

end Cert.ReferenceIdeal.Ref

end
-- ==== Proof.RefBand.lean ====
/-
  The reference's bands of keys and values, its masks and its rows of scores, read at an index.
-/
module

public import proofs.«01_k».proof.Proof.RefRope

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem

variable (x0 : FVec Ideal S8448x2560 .f32) (x1 : FVec Ideal S8 .f32)

/-- A rotated key, whatever names its token. -/
theorem key_row (k : ℕ) (hk : k < 8192) (g : Fin 2) (e : Fin 128) (r : ℕ) (hr : r = 256 + k) :
    val_main_v112 (F := Ideal) x0 (ix4 0 ⟨k, hk⟩ g e) = Row.rot x0 r (2048 + 128 * g.val) e := by
  subst hr
  exact key_at x0 ⟨k, hk⟩ g e

theorem rd_row (k : ℕ) (hk : 256 + k < 8448) (c : ℕ) (hc : c < 2560) (r c' : ℕ) (hr : r = 256 + k) (hc' : c' = c) :
    x0 (ix2 ⟨256 + k, hk⟩ ⟨c, hc⟩) = Row.rd x0 r c' := by
  subst hr hc'
  exact Row.rd_mk x0 _ _

/-- Key `j` of the band of block `n`, where it isn't padding. -/
theorem band_key (n : Fin 64) (j : Fin 384) (g : Fin 2) (e : Fin 128) (h : 128 ≤ n.val * 128 + j.val ∧ n.val * 128 + j.val < 8320) :
    val_main_v119 (F := Ideal) x0 (ix5 0 n j g e) = Row.key x0 (n.val + 2) g.val j.val e := by
  have hj := j.isLt
  unfold Row.key
  rw [if_pos hj]
  pointwise [val_main_v119, val_main_v118, val_main_v117, val_main_v116, val_main_v115, val_main_v114, val_main_call0_v0, val_main_c]
  by_cases h0 : j.val < 128
  · rw [dif_pos h0, dif_pos (by omega)]
    exact key_row x0 _ _ g e _ (by omega)
  rw [dif_neg h0]
  by_cases h1 : j.val - 128 < 128
  · rw [dif_pos h1, dif_pos (by omega)]
    exact key_row x0 _ _ g e _ (by omega)
  rw [dif_neg h1, dif_pos (by omega)]
  exact key_row x0 _ _ g e _ (by omega)

/-- Value `j` of the band of block `n`, where it isn't padding. -/
theorem band_val (n : Fin 64) (j : Fin 384) (g : Fin 2) (d : Fin 128) (h : 128 ≤ n.val * 128 + j.val ∧ n.val * 128 + j.val < 8320) :
    val_main_v125 (F := Ideal) x0 (ix5 0 n j g d) = Row.vl x0 (n.val + 2) g.val j.val d.val := by
  have hj := j.isLt
  unfold Row.vl
  rw [if_pos hj]
  pointwise [val_main_v125, val_main_v124, val_main_v123, val_main_v122, val_main_v121, val_main_v120, val_main_call1_v0, val_main_c_3, val_main_v14, val_main_v8, val_main_v7, val_main_v6]
  by_cases h0 : j.val < 128
  · rw [dif_pos h0, dif_pos (by omega)]
    exact rd_row x0 _ _ _ _ _ _ (by omega) (by omega)
  rw [dif_neg h0]
  by_cases h1 : j.val - 128 < 128
  · rw [dif_pos h1, dif_pos (by omega)]
    exact rd_row x0 _ _ _ _ _ _ (by omega) (by omega)
  rw [dif_neg h1, dif_pos (by omega)]
  exact rd_row x0 _ _ _ _ _ _ (by omega) (by omega)

/-- A key's distance from its query depends on neither's block. -/
theorem word_sub (a j q : BitVec 32) : IntOp.subi (IntOp.addi (IntOp.subi a 128#32) j) (IntOp.addi a q) = IntOp.subi j (IntOp.addi q 128#32) := by
  unfold IntOp.subi IntOp.addi
  bv_omega

/-- The window of 128 keys to each side. -/
theorem near : ∀ (q : Fin 128) (j : Fin 384),
    IntOp.cmpi CmpIPredicate.sle (IntOp.absi (IntOp.subi (BitVec.ofNat 32 j.val) (IntOp.addi (BitVec.ofNat 32 q.val) 128#32))) 128#32
      = if q.val ≤ j.val ∧ j.val ≤ q.val + 256 then 1#1 else 0#1 := by decide +kernel

/-- The keys that are before no token and after none. -/
theorem inside : ∀ (n : Fin 64) (j : Fin 384),
    IntOp.cmpi CmpIPredicate.sge (IntOp.addi (IntOp.subi (IntOp.muli (BitVec.ofNat 32 n.val) 128#32) 128#32) (BitVec.ofNat 32 j.val)) 0#32
      = (if 128 ≤ n.val * 128 + j.val then 1#1 else 0#1)
    ∧ IntOp.cmpi CmpIPredicate.slt (IntOp.addi (IntOp.subi (IntOp.muli (BitVec.ofNat 32 n.val) 128#32) 128#32) (BitVec.ofNat 32 j.val)) 8192#32
      = if n.val * 128 + j.val < 8320 then 1#1 else 0#1 := by decide +kernel

theorem and_words (a b c : Prop) [Decidable a] [Decidable b] [Decidable c] :
    IntOp.andi (IntOp.andi (if a then 1#1 else 0#1) (if b then 1#1 else 0#1)) (if c then 1#1 else 0#1) = if a ∧ b ∧ c then 1#1 else 0#1 := by
  by_cases ha : a <;> by_cases hb : b <;> by_cases hc : c <;> simp [ha, hb, hc, IntOp.andi]

theorem valid_band (n : Fin 64) (q : Fin 128) (j : Fin 384) :
    Cert.KernelIdeal.Blk.valid (n.val + 2) q.val j.val ↔ (q.val ≤ j.val ∧ j.val ≤ q.val + 256) ∧ 128 ≤ n.val * 128 + j.val ∧ n.val * 128 + j.val < 8320 := by
  have hj := j.isLt
  have hn := n.isLt
  unfold Cert.KernelIdeal.Blk.valid
  omega

theorem scale_eq : val_main_cst_4 (F := Ideal) ix0 = Ideal.ofBits FTy.f32 1035273459#32 := rfl

theorem scale_eq' : val_main_cst_5 (F := Ideal) ix0 = Ideal.ofBits FTy.f32 1035273459#32 := rfl

/-- A rotated query, whatever names its token and its head. -/
theorem query_row (k : ℕ) (hk : k < 8192) (a : ℕ) (ha : a < 8) (e : Fin 128) (r a' : ℕ) (hr : r = 256 + k) (ha' : a' = a) :
    val_main_v79 (F := Ideal) x0 (ix4 0 ⟨k, hk⟩ ⟨a, ha⟩ e) = Row.rot x0 r (128 * a') e := by
  subst hr ha'
  exact query_at x0 ⟨k, hk⟩ ⟨a', ha⟩ e

theorem word_bot : Ideal.ofBits .f32 0xFF800000#32 = ⊥ := by
  simp [Ideal.ofBits, Ideal.ieee]

/-- The score of a band's key, before the mask. -/
theorem band_dot (n : Fin 64) (g : Fin 2) (h : Fin 4) (q : Fin 128) (j : Fin 384) (hv : 128 ≤ n.val * 128 + j.val ∧ n.val * 128 + j.val < 8320) :
    val_main_v129 (F := Ideal) x0 (ix6 0 n g h q j) = Row.score x0 (256 + (128 * n.val + q.val)) (4 * g.val + h.val) j.val := by
  pointwise [val_main_v129, val_main_v128, val_main_v127, val_main_v126, val_main_v113]
  unfold Row.score
  rw [scale_eq, show (256 + (128 * n.val + q.val)) / 128 = n.val + 2 by omega, show (4 * g.val + h.val) / 4 = g.val by omega]
  congr 1
  refine Finset.sum_congr rfl fun e _ => ?_
  rw [band_key x0 n j g e hv, query_row x0 _ _ _ _ e (256 + (128 * n.val + q.val)) (4 * g.val + h.val) (by omega) (by omega), mul_comm]

/-- The masked score of a band's key. -/
theorem band_score (n : Fin 64) (g : Fin 2) (h : Fin 4) (q : Fin 128) (j : Fin 384) :
    val_main_v171 (F := Ideal) x0 (ix6 0 n g h q j) = Row.scores x0 (256 + (128 * n.val + q.val)) (4 * g.val + h.val) ⟨j.val, by omega⟩ := by
  pointwise [val_main_v171, val_main_call2_v2, val_main_call2_v1, val_main_call2_v0, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_c_6, val_main_c_7, val_main_c_8, val_main_c_9, val_main_c_10, val_main_c_11, val_main_cst_12]
  rw [word_sub, near, (inside n j).1, (inside n j).2, and_words]
  unfold Row.scores
  rw [show (256 + (128 * n.val + q.val)) / 128 = n.val + 2 by omega, show (256 + (128 * n.val + q.val)) % 128 = q.val by omega]
  by_cases hv : Cert.KernelIdeal.Blk.valid (n.val + 2) q.val j.val
  · rw [if_pos hv, if_pos ((valid_band n q j).1 hv)]
    exact band_dot x0 n g h q j ((valid_band n q j).1 hv).2
  · rw [if_neg hv, if_neg fun hc => hv ((valid_band n q j).2 hc)]
    exact word_bot

/-- The score of a context key. -/
theorem ctx_dot (n : Fin 64) (g : Fin 2) (h : Fin 4) (q : Fin 128) (j : Fin 256) :
    val_main_v133 (F := Ideal) x0 (ix6 0 n g h q j) = Row.scores x0 (256 + (128 * n.val + q.val)) (4 * g.val + h.val) ⟨384 + j.val, by omega⟩ := by
  pointwise [val_main_v133, val_main_v132, val_main_v131, val_main_v130, val_main_v113, val_main_v10, val_main_v5, val_main_v4, val_main_v3]
  unfold Row.scores
  rw [if_pos (show Cert.KernelIdeal.Blk.valid _ _ _ from Or.inl (Nat.le_add_right _ _))]
  unfold Row.score
  rw [scale_eq', show (4 * g.val + h.val) / 4 = g.val by omega]
  congr 1
  refine Finset.sum_congr rfl fun e _ => ?_
  unfold Row.key
  rw [if_neg (by dsimp only; omega), query_row x0 _ _ _ _ e (256 + (128 * n.val + q.val)) (4 * g.val + h.val) (by omega) (by omega), mul_comm,
    Row.rd_mk x0]
  dsimp only
  rw [Nat.add_sub_cancel_left, Nat.mul_comm g.val, Nat.add_assoc]

end Cert.ReferenceIdeal.Ref

end
-- ==== Proof.RefSoft.lean ====
/-
  The reference's softmax over a token's scores and sink, and its output rows, read at an index.
-/
module

public import proofs.«01_k».proof.Proof.RefBand

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem

variable (x0 : FVec Ideal S8448x2560 .f32) (x1 : FVec Ideal S8 .f32)

/-- The greatest entry along the last of six axes. -/
theorem max_row (v : FVec Ideal S1x64x2x4x128x641 .f32) (u : FVec Ideal S_ .f32) (n : Fin 64) (g : Fin 2) (h : Fin 4) (q : Fin 128) :
    Host.reduce FloatOps.maximumf v u reducesTo_S1x64x2x4x128x641_S1x64x2x4x128_d5 h_S_ (ix5 0 n g h q)
      = (Finset.univ : Finset (Fin 641)).fold max (u (Shape.Idx.first h_S_)) (fun k => v (ix6 0 n g h q k)) := by
  rw [Host.reduce_eq_fold]
  refine Finset.fold_filter_eq_fold_of_fiber _ _ (fun k : Fin 641 => (ix6 0 n g h q k : S1x64x2x4x128x641.Idx)) (fun a b e => congrFun e 5) (fun i => ?_) _ _
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- An entry of a token's row: a score of the band, one of the context, or the sink. -/
theorem row_entry (n : Fin 64) (g : Fin 2) (h : Fin 4) (q : Fin 128) (j : Fin 641) :
    val_main_v174 (F := Ideal) x0 x1 (ix6 0 n g h q j)
      = if h0 : j.val < 384 then val_main_v171 (F := Ideal) x0 (ix6 0 n g h q ⟨j.val, h0⟩)
        else if h1 : j.val - 384 < 256 then val_main_v133 (F := Ideal) x0 (ix6 0 n g h q ⟨j.val - 384, h1⟩)
        else x1 (ix1 ⟨g.val * 4 + h.val, by omega⟩) := by
  pointwise [val_main_v174, val_main_v173, val_main_v172]

/-- A row's scores, the sink after them. -/
theorem row_at (n : Fin 64) (g : Fin 2) (h : Fin 4) (q : Fin 128) :
    (∀ j : Fin 640, val_main_v174 (F := Ideal) x0 x1 (ix6 0 n g h q j.castSucc) = Row.scores x0 (256 + (128 * n.val + q.val)) (4 * g.val + h.val) j)
    ∧ val_main_v174 (F := Ideal) x0 x1 (ix6 0 n g h q (Fin.last 640)) = x1 (ix1 ⟨4 * g.val + h.val, by omega⟩) := by
  constructor
  · intro j
    rw [row_entry]
    by_cases h0 : j.val < 384
    · rw [dif_pos (show j.castSucc.val < 384 from h0)]
      exact band_score x0 n g h q ⟨j.val, h0⟩
    · have hj : j.val - 384 < 256 := by omega
      rw [dif_neg (show ¬ j.castSucc.val < 384 from h0), dif_pos (show j.castSucc.val - 384 < 256 from hj)]
      refine (ctx_dot x0 n g h q ⟨j.val - 384, hj⟩).trans (congrArg _ (Fin.ext ?_))
      show 384 + (j.val - 384) = j.val
      omega
  · rw [row_entry]
    rw [dif_neg (show ¬ (Fin.last 640).val < 384 by rw [Fin.val_last]; omega), dif_neg (show ¬ (Fin.last 640).val - 384 < 256 by rw [Fin.val_last]; omega)]
    exact congrArg x1 (congrArg ix1 (Fin.ext (by show g.val * 4 + h.val = 4 * g.val + h.val; omega)))

theorem top_at (n : Fin 64) (g : Fin 2) (h : Fin 4) (q : Fin 128) :
    val_main_v177 (F := Ideal) x0 x1 (ix5 0 n g h q) = Row.top (Row.scores x0 (256 + (128 * n.val + q.val)) (4 * g.val + h.val)) (x1 (ix1 ⟨4 * g.val + h.val, by omega⟩)) := by
  rw [val_main_v177_apply]
  unfold val_main_v175
  rw [max_row, val_main_v176_apply]
  unfold val_main_cst_14 val_main_cst_13
  show max (Ideal.ofBits .f32 0xFF800000#32) (Finset.univ.fold max (Ideal.ofBits .f32 0xFF800000#32) _) = _
  rw [word_bot, max_eq_right bot_le, Row.fold_max]
  exact Row.sup_snoc _ _ _ (row_at x0 x1 n g h q).1 (row_at x0 x1 n g h q).2

theorem exp_at (n : Fin 64) (g : Fin 2) (h : Fin 4) (q : Fin 128) (k : Fin 641) :
    val_main_v181 (F := Ideal) x0 x1 (ix6 0 n g h q k) = Ideal.exp (val_main_v174 (F := Ideal) x0 x1 (ix6 0 n g h q k)
      - Row.top (Row.scores x0 (256 + (128 * n.val + q.val)) (4 * g.val + h.val)) (x1 (ix1 ⟨4 * g.val + h.val, by omega⟩))) := by
  pointwise [val_main_v181, val_main_v180, val_main_v179, val_main_v178]
  rw [top_at]

theorem den_at (n : Fin 64) (g : Fin 2) (h : Fin 4) (q : Fin 128) :
    val_main_v182 (F := Ideal) x0 x1 (ix5 0 n g h q) = Row.den (Row.scores x0 (256 + (128 * n.val + q.val)) (4 * g.val + h.val)) (x1 (ix1 ⟨4 * g.val + h.val, by omega⟩)) := by
  rw [val_main_v182_apply]
  have e : ∀ k : Fin 641, idx_main_v182 (ix5 0 n g h q) k = ix6 0 n g h q k := fun k => funext fun a => match a with
    | ⟨0, _⟩ => rfl
    | ⟨1, _⟩ => rfl
    | ⟨2, _⟩ => rfl
    | ⟨3, _⟩ => rfl
    | ⟨4, _⟩ => rfl
    | ⟨5, _⟩ => rfl
  simp only [e, exp_at]
  unfold val_main_cst_15
  show Ideal.ofBits .f32 0#32 + _ = _
  rw [word_zero, zero_add]
  exact Row.sum_snoc (fun k => val_main_v174 (F := Ideal) x0 x1 (ix6 0 n g h q k)) _ _ (row_at x0 x1 n g h q).1 (row_at x0 x1 n g h q).2

/-- The weight of key `j`. -/
theorem weight_at (n : Fin 64) (g : Fin 2) (h : Fin 4) (q : Fin 128) (j : Fin 640) :
    val_main_v185 (F := Ideal) x0 x1 (ix6 0 n g h q j.castSucc)
      = Ideal.div (Ideal.exp (Row.scores x0 (256 + (128 * n.val + q.val)) (4 * g.val + h.val) j
          - Row.top (Row.scores x0 (256 + (128 * n.val + q.val)) (4 * g.val + h.val)) (x1 (ix1 ⟨4 * g.val + h.val, by omega⟩))))
        (Row.den (Row.scores x0 (256 + (128 * n.val + q.val)) (4 * g.val + h.val)) (x1 (ix1 ⟨4 * g.val + h.val, by omega⟩))) := by
  pointwise [val_main_v185, val_main_v184, val_main_v183]
  rw [exp_at, den_at, (row_at x0 x1 n g h q).1]

theorem row_val (r : ℕ) (hr : r < 8448) (c : ℕ) (hc : c < 2560) (r' c' : ℕ) (er : r' = r) (ec : c' = c) :
    x0 (ix2 ⟨r, hr⟩ ⟨c, hc⟩) = Row.rd x0 r' c' := by
  subst er ec
  exact Row.rd_mk x0 _ _

/-- Key `j` of a token's context, its value. -/
theorem ctx_val (j : Fin 256) (g : Fin 2) (d : Fin 128) :
    val_main_v11 (F := Ideal) x0 (ix4 0 j g d) = Row.rd x0 j.val (2304 + 128 * g.val + d.val) := by
  pointwise [val_main_v11, val_main_v8, val_main_v7, val_main_v6]
  exact row_val x0 _ _ _ _ _ _ rfl (by omega)

/-- A masked key's value is not asked for; another's is the reference's. -/
theorem band_out (n : Fin 64) (g : Fin 2) (h : Fin 4) (q : Fin 128) (d : Fin 128) (j : Fin 384) :
    Row.scores x0 (256 + (128 * n.val + q.val)) (4 * g.val + h.val) ⟨j.val, by omega⟩ = ⊥
      ∨ val_main_v125 (F := Ideal) x0 (ix5 0 n j g d) = Row.vl x0 (n.val + 2) g.val j.val d.val := by
  by_cases hv : Cert.KernelIdeal.Blk.valid (n.val + 2) q.val j.val
  · exact Or.inr (band_val x0 n j g d ((valid_band n q j).1 hv).2)
  · refine Or.inl ?_
    unfold Row.scores
    rw [show (256 + (128 * n.val + q.val)) / 128 = n.val + 2 by omega, show (256 + (128 * n.val + q.val)) % 128 = q.val by omega]
    exact if_neg hv

/-- The two weighted sums of values together are the row's output. -/
theorem token_out (hx : Row.Good x0) (hs : ∀ a, Row.Fin' (x1 (ix1 a))) (n : Fin 64) (g : Fin 2) (h : Fin 4) (q : Fin 128) (d : Fin 128) :
    ∑ x : Fin 384, val_main_v125 (F := Ideal) x0 (ix5 0 n x g d) * val_main_v185 (F := Ideal) x0 x1 (ix6 0 n g h q ⟨x.val, by omega⟩)
      + ∑ x : Fin 256, val_main_v11 (F := Ideal) x0 (ix4 0 x g d) * val_main_v185 (F := Ideal) x0 x1 (ix6 0 n g h q ⟨384 + x.val, by omega⟩)
      = Row.att x0 (x1 (ix1 ⟨4 * g.val + h.val, by omega⟩)) (256 + (128 * n.val + q.val)) (4 * g.val + h.val) d.val := by
  have ht := Row.top_ne_top (Row.scores x0 (256 + (128 * n.val + q.val)) (4 * g.val + h.val)) (x1 (ix1 ⟨4 * g.val + h.val, by omega⟩))
    (Row.scores_ne_top hx _ _ (by omega)) (hs _).ne_top
  unfold Row.att
  rw [show (256 + (128 * n.val + q.val)) / 128 = n.val + 2 by omega, show (4 * g.val + h.val) / 4 = g.val by omega]
  let v : Fin (384 + 256) → EReal := Fin.addCases (fun x : Fin 384 => val_main_v125 (F := Ideal) x0 (ix5 0 n x g d)) (fun x : Fin 256 => val_main_v11 (F := Ideal) x0 (ix4 0 x g d))
  have hl : ∀ x : Fin 384, v (Fin.castAdd 256 x) = val_main_v125 (F := Ideal) x0 (ix5 0 n x g d) := fun x => Fin.addCases_left x
  have hr : ∀ x : Fin 256, v (Fin.natAdd 384 x) = val_main_v11 (F := Ideal) x0 (ix4 0 x g d) := fun x => Fin.addCases_right x
  refine Eq.trans ?_ ((Row.sum_div _ _ v (hs _).ne_bot ht).trans (Row.out_congr (fun _ => rfl) rfl fun j => ?_))
  · refine Eq.trans ?_ (Fin.sum_univ_add (a := 384) (b := 256) _).symm
    refine congrArg₂ (· + ·) (Finset.sum_congr rfl fun x _ => ?_) (Finset.sum_congr rfl fun x _ => ?_)
    · rw [hl, mul_comm]
      exact congrArg (· * _) (weight_at x0 x1 n g h q (Fin.castAdd 256 x))
    · rw [hr, mul_comm]
      exact congrArg (· * _) (weight_at x0 x1 n g h q (Fin.natAdd 384 x))
  · refine Fin.addCases (m := 384) (n := 256) (fun x => ?_) (fun x => ?_) j
    · rw [hl]
      exact band_out x0 n g h q d x
    · rw [hr, ctx_val]
      refine Or.inr ?_
      unfold Row.vl
      rw [if_neg (by show ¬ 384 + x.val < 384; omega)]
      show _ = Row.rd x0 (384 + x.val - 384) _
      rw [Nat.add_sub_cancel_left]

/-- A token's row of the output. -/
theorem token_row (hx : Row.Good x0) (hs : ∀ a, Row.Fin' (x1 (ix1 a))) (t : Fin 8192) (l : Fin 1024) :
    val_main_v220 (F := Ideal) x0 x1 (ix2 ⟨256 + t.val, by omega⟩ l)
      = Row.att x0 (x1 (ix1 ⟨l.val / 128, by omega⟩)) (256 + t.val) (l.val / 128) (l.val % 128) := by
  pointwise [val_main_v193, val_main_v192, val_main_v191, val_main_v190, val_main_v189, val_main_v188, val_main_v187, val_main_v186, val_main_v218, val_main_v219, val_main_v220]
  refine (token_out x0 x1 hx hs ⟨t.val / 128, by omega⟩ ⟨l.val / 512, by omega⟩ ⟨l.val / 128 % 4, by omega⟩ ⟨t.val % 128, by omega⟩ ⟨l.val % 128, by omega⟩).trans ?_
  have ea : 4 * (l.val / 512) + l.val / 128 % 4 = l.val / 128 := by omega
  have er : 128 * (t.val / 128) + t.val % 128 = t.val := by omega
  dsimp only
  rw [er]
  congr 1
  exact congrArg x1 (congrArg ix1 (Fin.ext ea))

/-- An entry of a context row: a score or the sink. -/
theorem ctx_entry (g : Fin 2) (h : Fin 4) (q : Fin 256) (j : Fin 257) :
    val_main_v201 (F := Ideal) x0 x1 (ix5 0 g h q j)
      = if h0 : j.val < 256 then (∑ e : Fin 128, x0 (ix2 ⟨j.val, by omega⟩ ⟨2048 + (g.val * 128 + e.val), by omega⟩) * x0 (ix2 ⟨q.val, by omega⟩ ⟨(g.val * 4 + h.val) * 128 + e.val, by omega⟩)) * val_main_cst_16 (F := Ideal) ix0
        else x1 (ix1 ⟨g.val * 4 + h.val, by omega⟩) := by
  pointwise [val_main_v201, val_main_v200, val_main_v199, val_main_v198, val_main_v197, val_main_v196, val_main_v195, val_main_v194, val_main_v10, val_main_v9, val_main_v5, val_main_v4, val_main_v3, val_main_v2, val_main_v1, val_main_v0]

/-- The score of a context query against a context key. -/
def cs (g h q : ℕ) (j : Fin 256) : EReal :=
  (∑ e : Fin 128, Row.rd x0 q (128 * (4 * g + h) + e.val) * Row.rd x0 j.val (2048 + 128 * ((4 * g + h) / 4) + e.val)) * Ideal.ofBits FTy.f32 1035273459#32

/-- A context row's scores, the sink after them. -/
theorem ctx_row_at (g : Fin 2) (h : Fin 4) (q : Fin 256) :
    (∀ j : Fin 256, val_main_v201 (F := Ideal) x0 x1 (ix5 0 g h q j.castSucc) = cs x0 g.val h.val q.val j)
    ∧ val_main_v201 (F := Ideal) x0 x1 (ix5 0 g h q (Fin.last 256)) = x1 (ix1 ⟨4 * g.val + h.val, by omega⟩) := by
  constructor
  · intro j
    rw [ctx_entry, dif_pos (show j.castSucc.val < 256 from j.isLt)]
    unfold cs
    refine congrArg₂ (· * ·) (Finset.sum_congr rfl fun e _ => ?_) rfl
    rw [mul_comm]
    exact congrArg₂ (· * ·) (row_val x0 _ _ _ _ _ _ rfl (by omega)) (row_val x0 _ _ _ _ _ _ rfl (by omega))
  · rw [ctx_entry, dif_neg (show ¬ (Fin.last 256).val < 256 by rw [Fin.val_last]; omega)]
    exact congrArg x1 (congrArg ix1 (Fin.ext (by show g.val * 4 + h.val = 4 * g.val + h.val; omega)))

/-- The weight of a context key. -/
theorem ctx_weight (g : Fin 2) (h : Fin 4) (q : Fin 256) (j : Fin 256) :
    val_main_v212 (F := Ideal) x0 x1 (ix5 0 g h q j.castSucc)
      = Ideal.div (Ideal.exp (cs x0 g.val h.val q.val j - Row.top (cs x0 g.val h.val q.val) (x1 (ix1 ⟨4 * g.val + h.val, by omega⟩))))
        (Row.den (cs x0 g.val h.val q.val) (x1 (ix1 ⟨4 * g.val + h.val, by omega⟩))) := by
  have et : max (val_main_cst_18 (F := Ideal) ix0) (Finset.fold max (val_main_cst_17 (F := Ideal) (Shape.Idx.first h_S_)) (fun x => val_main_v201 (F := Ideal) x0 x1 (ix5 0 g h q x)) Finset.univ)
      = Row.top (cs x0 g.val h.val q.val) (x1 (ix1 ⟨4 * g.val + h.val, by omega⟩)) := by
    unfold val_main_cst_18 val_main_cst_17
    show max (Ideal.ofBits .f32 0xFF800000#32) (Finset.univ.fold max (Ideal.ofBits .f32 0xFF800000#32) _) = _
    rw [word_bot, max_eq_right bot_le, Row.fold_max]
    exact Row.sup_snoc _ _ _ (ctx_row_at x0 x1 g h q).1 (ctx_row_at x0 x1 g h q).2
  have e0 : val_main_cst_19 (F := Ideal) (Shape.Idx.first h_S_) = 0 := word_zero
  generalize hj : j.castSucc = k
  pointwise [val_main_v212, val_main_v211, val_main_v210, val_main_v209, val_main_v208, val_main_v207, val_main_v206, val_main_v205, val_main_v204, val_main_v203, val_main_v202]
  rw [et, e0, zero_add, ← hj, (ctx_row_at x0 x1 g h q).1]
  exact congrArg _ (Row.sum_snoc (fun k => val_main_v201 (F := Ideal) x0 x1 (ix5 0 g h q k)) _ _ (ctx_row_at x0 x1 g h q).1 (ctx_row_at x0 x1 g h q).2)

/-- A context query's score is a real number. -/
theorem fin_cs {x0 : FVec Ideal S8448x2560 .f32} (hx : Row.Good x0) (g h q : ℕ) (hg : g < 2) (hh : h < 4) (j : Fin 256) : Row.Fin' (cs x0 g h q j) :=
  Row.Fin'.mul (Row.Fin'.sum _ _ fun e => (hx _ _ (by omega)).mul (hx _ _ (by omega))) Row.fin_scale

/-- The weighted sum of the context's values is the row's output. -/
theorem ctx_out (hx : Row.Good x0) (hs : ∀ a, Row.Fin' (x1 (ix1 a))) (g : Fin 2) (h : Fin 4) (q : Fin 256) (d : Fin 128) :
    ∑ x : Fin 256, val_main_v11 (F := Ideal) x0 (ix4 0 x g d) * val_main_v212 (F := Ideal) x0 x1 (ix5 0 g h q x.castSucc)
      = Row.att x0 (x1 (ix1 ⟨4 * g.val + h.val, by omega⟩)) q.val (4 * g.val + h.val) d.val := by
  have ht := Row.top_ne_top (cs x0 g.val h.val q.val) (x1 (ix1 ⟨4 * g.val + h.val, by omega⟩))
    (fun j => (fin_cs hx g.val h.val q.val g.isLt h.isLt j).ne_top) (hs _).ne_top
  rw [Row.att_ctx _ _ _ _ _ q.isLt]
  refine Eq.trans ?_ ((Row.sum_div (cs x0 g.val h.val q.val) _ (fun x => val_main_v11 (F := Ideal) x0 (ix4 0 x g d)) (hs _).ne_bot ht).trans
    (Row.out_congr (fun _ => rfl) rfl fun j => Or.inr ?_))
  · refine Finset.sum_congr rfl fun x _ => ?_
    rw [ctx_weight, mul_comm]
  · rw [ctx_val, show (4 * g.val + h.val) / 4 = g.val by omega]

/-- A context row of the output. -/
theorem ctx_row (hx : Row.Good x0) (hs : ∀ a, Row.Fin' (x1 (ix1 a))) (t : Fin 256) (l : Fin 1024) :
    val_main_v220 (F := Ideal) x0 x1 (ix2 ⟨t.val, by omega⟩ l)
      = Row.att x0 (x1 (ix1 ⟨l.val / 128, by omega⟩)) t.val (l.val / 128) (l.val % 128) := by
  pointwise [val_main_v217, val_main_v216, val_main_v215, val_main_v214, val_main_v213, val_main_v218, val_main_v219, val_main_v220]
  refine (ctx_out x0 x1 hx hs ⟨l.val / 512, by omega⟩ ⟨l.val / 128 % 4, by omega⟩ t ⟨l.val % 128, by omega⟩).trans ?_
  have ea : 4 * (l.val / 512) + l.val / 128 % 4 = l.val / 128 := by omega
  dsimp only
  congr 1
  exact congrArg x1 (congrArg ix1 (Fin.ext ea))

/-- Every row of the output. -/
theorem row (hx : Row.Good x0) (hs : ∀ a, Row.Fin' (x1 (ix1 a))) (i : S8448x1024.Idx) :
    val_main_v220 (F := Ideal) x0 x1 i
      = Row.att x0 (x1 (ix1 ⟨(i 1).val / 128, by have := (i 1).isLt; change (i 1).val < 1024 at this; omega⟩)) (i 0).val ((i 1).val / 128) ((i 1).val % 128) := by
  obtain ⟨r, l, rfl⟩ : ∃ (r : Fin 8448) (l : Fin 1024), i = ix2 r l := ⟨i 0, i 1, funext fun a => match a with | ⟨0, _⟩ => rfl | ⟨1, _⟩ => rfl⟩
  show _ = Row.att x0 (x1 (ix1 ⟨l.val / 128, _⟩)) r.val (l.val / 128) (l.val % 128)
  by_cases h : r.val < 256
  · exact ctx_row x0 x1 hx hs ⟨r.val, h⟩ l
  · have e : (⟨256 + (r.val - 256), by omega⟩ : Fin 8448) = r := Fin.ext (show 256 + (r.val - 256) = r.val by omega)
    have k := token_row x0 x1 hx hs ⟨r.val - 256, by omega⟩ l
    dsimp only at k
    rwa [e, show 256 + (r.val - 256) = r.val by omega] at k

/-- The copied weights. -/
theorem weights (x2 : FVec Ideal S4x16x2048x1408 .f32) (i : S32768x1408.Idx) :
    val_main_v224 (F := Ideal) x2 i = x2 (ix4 1 ⟨(i 0).val / 2048, by have := (i 0).isLt; change (i 0).val < 32768 at this; omega⟩ ⟨(i 0).val % 2048, by omega⟩ (i 1)) := by
  obtain ⟨r, l, rfl⟩ : ∃ (r : Fin 32768) (l : Fin 1408), i = ix2 r l := ⟨i 0, i 1, funext fun a => match a with | ⟨0, _⟩ => rfl | ⟨1, _⟩ => rfl⟩
  pointwise [val_main_v224, val_main_v223, val_main_v222, val_main_v221]
  all_goals rfl

end Cert.ReferenceIdeal.Ref

end
-- ==== Proof.RefRun.lean ====
/-
  The reference's run: its two results at every index, and its counters at zero.
-/
module

public import proofs.«01_k».proof.Proof.RefSoft

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem Idealize.ShloMosaic.StableHlo

variable (m : (ℓ : Loc nD τ sig) → Buf (Elt Ideal) ℓ) (ρ : Dev nD → PrngReg)

/-- The reference ends with the attention's rows and the copied weights in its results and its arguments as they were,
    the queries, the keys and the sinks being real numbers. -/
theorem run (hx : ∀ c : Dev nD, Row.Good (m ((c.tc : Thread nD τ).loc main_arg0)))
    (hs : ∀ (c : Dev nD) (a : Fin 8), Row.Fin' (m ((c.tc : Thread nD τ).loc main_arg1) (ix1 a))) :
    θ_run defs (onTc (τ := τ) (main (F := Ideal))) ⟨m, fun _ => 0, ρ⟩ fun r => ∀ c : Dev nD,
      r.2.mem ((c.tc : Thread nD τ).loc main_v220) = (fun i : S8448x1024.Idx => Row.att (m ((c.tc : Thread nD τ).loc main_arg0))
          (m ((c.tc : Thread nD τ).loc main_arg1) (ix1 ⟨(i 1).val / 128, Nat.div_lt_of_lt_mul (i 1).isLt⟩)) (i 0).val ((i 1).val / 128) ((i 1).val % 128))
      ∧ r.2.mem ((c.tc : Thread nD τ).loc main_v224) = (fun i : S32768x1408.Idx => m ((c.tc : Thread nD τ).loc main_arg2)
          (ix4 1 ⟨(i 0).val / 2048, Nat.div_lt_of_lt_mul (i 0).isLt⟩ ⟨(i 0).val % 2048, Nat.mod_lt _ (by decide)⟩ (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v220_eq (launchContents m c))).trans (funext fun i => row _ _ (hx c) (hs c) i),
      ((h c).2.1.trans (val_main_v224_eq (launchContents m c))).trans (funext fun i => weights _ i), (h c).2.2⟩) (Value.run m ρ)

/-- The reference runs, keeps its arguments, and leaves every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Value.run m ρ)

end Cert.ReferenceIdeal.Ref

end
-- ==== Proof.ExpRun.lean ====
/-
  The experts' body on its staging buffers: what a grid point leaves in the result's block and in the scratch, on the
  path of a used block and on the path of an unused one.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of each block's expert, the count of used blocks, and the scratch, as the body is handed them. -/
abbrev tblE : Memref sig .tc .smem S82 .i32 := Memref.whole main_arg1
abbrev tblN : Memref sig .tc .smem S1 .i32 := Memref.whole main_arg2
abbrev scr : Memref sig .tc .vmem S256x1408 .bf16 := Memref.whole cc0_scratch0

/-- The word that the body reads from the count of used blocks. -/
abbrev word (T1 : S1.Idx → Elt F .i32) : BitVec 32 :=
  View.readAt (Elt F) (tblN).view (Rect.unit (s := S1) ![0] S1.size inb_S1_S1_0).toLoadRect T1 (Shape.Idx.first (numel1_S1.symm ▸ Nat.one_pos))

set_option backward.proofsInPublic true in
set_option maxHeartbeats 8000000 in
/-- A used block: the body leaves the pieces `out0` over the result's block and `out1` in the scratch, whatever it held. -/
noncomputable def runUsed (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16)
    (k0_h1 : ¬k0_cond1 i (word T1) = 1#1) (k0_h2 : k0_cond2 i (word T1) = 1#1) :
    Σ' (out0 : List (View.Piece (Elt F) S5120x128 .f32)), { out1 : Buf (Elt F) ((c : Thread nD τ).loc cc0_scratch0) //
      ∀ (xa0 : Buf (Elt F) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tblE.view.loc (c : Thread nD τ) ↦{fullShare.right} T0)
          ∗ (tblN.view.loc (c : Thread nD τ) ↦{fullShare.right} T1)
          ∗ (∃ d, owns (c : Thread nD τ) arg7 fullShare d)
          ∗ (scr.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tblE.view.loc (c : Thread nD τ) ↦{fullShare.right} T0)
          ∗ (tblN.view.loc (c : Thread nD τ) ↦{fullShare.right} T1)
              ∗ (∃ f, arg7.view.loc (c : Thread nD τ) ↦[arg7.view.set]{fullShare} arg7.view.writes (Elt F) f out0)
              ∗ (scr.view.loc (c : Thread nD τ) ↦{fullShare} out1)) -∗ K ⟨⟩))
          ⊢ wp frame (wpE (defs₀ (F := F)) Variants.none c none) Set.univ (cc0_moe_experts i tblE (Memref.isWhole_whole _) tblN (Memref.isWhole_whole _) arg3 harg3 arg4 harg4 arg5 harg5 arg6 harg6 arg7 harg7 scr (Memref.isWhole_whole _)) K } :=
  ⟨_, _, fun (xa0 : Buf (Elt F) ((c : Thread nD τ).loc cc0_scratch0)) K => by
    unfold owns
    rw [cc0_moe_experts_eq_skeleton]; unfold cc0_moe_experts_skel
    iintro ⟨H0, H1, H2, H3, HT0, HT1, ⟨%d4, %f4, -, HO4⟩, HS0, Hk⟩
    have hS0 : scr.IsWhole := Memref.isWhole_whole _
    have hT0 : tblE.IsWhole := Memref.isWhole_whole _
    have hT1 : tblN.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

set_option backward.proofsInPublic true in
set_option maxHeartbeats 8000000 in
/-- An unused block: the body leaves the pieces `out0` over the result's block and the scratch as it was. -/
noncomputable def runUnused (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16) (xa0 : Buf (Elt F) ((c : Thread nD τ).loc cc0_scratch0))
    (k0_h1 : k0_cond1 i (word T1) = 1#1) (k0_h2 : ¬k0_cond2 i (word T1) = 1#1) :
    Σ' (out0 : List (View.Piece (Elt F) S5120x128 .f32)), { out1 : Buf (Elt F) ((c : Thread nD τ).loc cc0_scratch0) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tblE.view.loc (c : Thread nD τ) ↦{fullShare.right} T0)
          ∗ (tblN.view.loc (c : Thread nD τ) ↦{fullShare.right} T1)
          ∗ (∃ d, owns (c : Thread nD τ) arg7 fullShare d)
          ∗ (scr.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tblE.view.loc (c : Thread nD τ) ↦{fullShare.right} T0)
          ∗ (tblN.view.loc (c : Thread nD τ) ↦{fullShare.right} T1)
              ∗ (∃ f, arg7.view.loc (c : Thread nD τ) ↦[arg7.view.set]{fullShare} arg7.view.writes (Elt F) f out0)
              ∗ (scr.view.loc (c : Thread nD τ) ↦{fullShare} out1)) -∗ K ⟨⟩))
          ⊢ wp frame (wpE (defs₀ (F := F)) Variants.none c none) Set.univ (cc0_moe_experts i tblE (Memref.isWhole_whole _) tblN (Memref.isWhole_whole _) arg3 harg3 arg4 harg4 arg5 harg5 arg6 harg6 arg7 harg7 scr (Memref.isWhole_whole _)) K } :=
  ⟨_, _, fun  K => by
    unfold owns
    rw [cc0_moe_experts_eq_skeleton]; unfold cc0_moe_experts_skel
    iintro ⟨H0, H1, H2, H3, HT0, HT1, ⟨%d4, %f4, -, HO4⟩, HS0, Hk⟩
    have hS0 : scr.IsWhole := Memref.isWhole_whole _
    have hT0 : tblE.IsWhole := Memref.isWhole_whole _
    have hT1 : tblN.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

end Cert.Kernel2Ideal.Exp

end
-- ==== Proof.ExpFrame.lean ====
/-
  The experts' call as a whole, at any tables in range: the blocks its grid points leave, the body's obligation at a
  generic point by path, and its run, which ends with every array at what the pipeline computes and all counters at zero.
-/
module

public import proofs.«01_k».proof.Proof.ExpRun
public import Idealize.ShloMosaic.Lib.Pipeline.Value
public import Idealize.ShloMosaic.Lib.WordArith
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the pipeline's staging cells. -/
abbrev EP : Emb (UR sig nD τ) 𝕄 := emb₁

/-! ## The pieces cover the block -/

theorem inb_strip (k : Fin 20) (a : Fin S5120x128.rank) :
    S256x128.size a = 0 ∨ (![(k : ℕ), 0] : Fin 2 → ℕ) a + (![20, 1] : Fin 2 → ℕ) a * (S256x128.size a - 1) < S5120x128.size a := by
  refine Or.inr ?_
  have := k.isLt
  match a with
  | ⟨0, _⟩ => show (k : ℕ) + 20 * (256 - 1) < 5120; omega
  | ⟨1, _⟩ => show 0 + 1 * (128 - 1) < 128; omega

/-- Chunk `k` of every slab of a block: the rows `20 r + k`. -/
def strip (k : Fin 20) : Rect S5120x128 := ⟨⟨![(k : ℕ), 0], S256x128.size, ![20, 1], inb_strip k⟩, spos_20_1⟩

theorem mem_strip (k : Fin 20) (y : S5120x128.Idx) (h : (y 0 : ℕ) % 20 = k) : y ∈ (strip k).set := by
  refine (strip k).mem_set.mpr fun a => ?_
  have h0 : (y 0 : ℕ) < 5120 := (y 0).isLt
  match a with
  | ⟨0, _⟩ => exact ⟨(y 0 : ℕ) / 20, show (y 0 : ℕ) / 20 < 256 by omega, show (y 0 : ℕ) = (k : ℕ) + 20 * ((y 0 : ℕ) / 20) by omega⟩
  | ⟨1, _⟩ => exact ⟨(y 1 : ℕ), (y 1).isLt, show (y 1 : ℕ) = 0 + 1 * (y 1 : ℕ) by omega⟩

/-- A used block's stores, last first, are one strip each. -/
theorem strips_used (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16) (h1) (h2) :
    (runUsed c i arg3 harg3 arg4 harg4 arg5 harg5 arg6 harg6 arg7 harg7 T0 T1 x0 x1 x2 x3 h1 h2).1.map Sigma.fst
      = [strip 19, strip 18, strip 17, strip 16, strip 15, strip 14, strip 13, strip 12, strip 11, strip 10, strip 9, strip 8, strip 7, strip 6, strip 5, strip 4, strip 3, strip 2, strip 1, strip 0] := rfl

theorem cover_used (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16) (h1) (h2) (y : S5120x128.Idx) :
    ∃ p ∈ (runUsed c i arg3 harg3 arg4 harg4 arg5 harg5 arg6 harg6 arg7 harg7 T0 T1 x0 x1 x2 x3 h1 h2).1, y ∈ p.1.set := by
  have hk : (y 0 : ℕ) % 20 < 20 := Nat.mod_lt _ (by omega)
  have hm : strip ⟨(y 0 : ℕ) % 20, hk⟩ ∈ (runUsed c i arg3 harg3 arg4 harg4 arg5 harg5 arg6 harg6 arg7 harg7 T0 T1 x0 x1 x2 x3 h1 h2).1.map Sigma.fst := by
    rw [strips_used]
    generalize (⟨(y 0 : ℕ) % 20, hk⟩ : Fin 20) = k
    fin_cases k <;> simp
  obtain ⟨p, hp, he⟩ := List.mem_map.mp hm
  exact ⟨p, hp, he ▸ mem_strip _ y rfl⟩

/-- An unused block is stored whole, at zeros. -/
theorem pieces_unused (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16) (xa0) (h1) (h2) :
    (runUnused c i arg3 harg3 arg4 harg4 arg5 harg5 arg6 harg6 arg7 harg7 T0 T1 x0 x1 x2 x3 xa0 h1 h2).1 = [⟨Rect.unit ![0, 0] S5120x128.size inb_S5120x128_S5120x128_0_0, k0_pay1⟩] := rfl

theorem cover_unused (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt F .i32) (T1 : S1.Idx → Elt F .i32)
    (x0 : S5120x128.Idx → Elt F .f32) (x1 x2 : S1x2048x1408.Idx → Elt F .bf16) (x3 : S1x1408x2048.Idx → Elt F .bf16) (xa0) (h1) (h2) (y : S5120x128.Idx) :
    ∃ p ∈ (runUnused c i arg3 harg3 arg4 harg4 arg5 harg5 arg6 harg6 arg7 harg7 T0 T1 x0 x1 x2 x3 xa0 h1 h2).1, y ∈ p.1.set := by
  rw [pieces_unused]
  exact ⟨_, List.mem_singleton_self _, View.mem_set_unit_zero (by funext a; match a with | ⟨0, _⟩ => rfl | ⟨1, _⟩ => rfl) inb_S5120x128_S5120x128_0_0 y⟩

/-! ## The two conditions -/

theorem bit_ne (b : BitVec 1) : Scalar.cmpi .ne (Scalar.extui b : BitVec 32) 0#32 = b := by
  revert b; decide

/-- A block at or past the count of used blocks is unused; -/
theorem cond1_iff (i : grid0.Coords) (v : BitVec 32) : k0_cond1 i v = 1#1 ↔ v.toInt ≤ (BitVec.ofNat 32 (i 0).val).toInt := by
  rw [show k0_cond1 i v = Scalar.cmpi .sge (BitVec.ofNat 32 (i 0).val) v from bit_ne _, ← BitVec.sle_iff_toInt_le]
  show BitVec.ofBool (v.sle (BitVec.ofNat 32 (i 0).val)) = 1#1 ↔ _
  cases v.sle (BitVec.ofNat 32 (i 0).val) <;> decide

/-- one before it is used. -/
theorem cond2_iff (i : grid0.Coords) (v : BitVec 32) : k0_cond2 i v = 1#1 ↔ (BitVec.ofNat 32 (i 0).val).toInt < v.toInt := by
  rw [show k0_cond2 i v = Scalar.cmpi .slt (BitVec.ofNat 32 (i 0).val) v from bit_ne _, ← BitVec.slt_iff_toInt_lt]
  show BitVec.ofBool ((BitVec.ofNat 32 (i 0).val).slt v) = 1#1 ↔ _
  cases (BitVec.ofNat 32 (i 0).val).slt v <;> decide

theorem cond2_of_not (i : grid0.Coords) (v : BitVec 32) (h : ¬k0_cond1 i v = 1#1) : k0_cond2 i v = 1#1 := by
  rw [cond1_iff] at h; rw [cond2_iff]; omega

theorem not_cond2 (i : grid0.Coords) (v : BitVec 32) (h : k0_cond1 i v = 1#1) : ¬k0_cond2 i v = 1#1 := by
  rw [cond1_iff] at h; rw [cond2_iff]; omega

/-! ## The pipeline at admissible tables -/

variable (A : (pcfg0 (F := F)).Adm)

abbrev cfgA : Cfg sig Λ₀ := cfg0 A
abbrev pcs : Fin 1 → Cfg sig Λ₀ := Pipeline.pin (pcfgs (F := F)) fun _ => A

/-- The two tables: each block's expert, and the count of used blocks. -/
abbrev tabE : S82.Idx → Elt F .i32 := A.1 0
abbrev tabN : S1.Idx → Elt F .i32 := A.1 1

/-- Point `t`'s coordinate. -/
abbrev crd (t : Fin (cfgA A).N) : (cfgA A).grid.Coords := (cfgA A).grid.coords t

/-- Each window's staging buffer at point `t`, as the body is handed it. -/
abbrev ms0 (t : Fin (cfgA A).N) : Memref sig .tc .vmem S5120x128 .f32 := spec0_0.stage ((cfgA A).slots t (0 : Fin 5))
abbrev hs0 (t : Fin (cfgA A).N) : (ms0 A t).IsWhole := hstage0_0 (((cfgA A).slots t (0 : Fin 5)).cast nbuf0_0)
abbrev ms1 (t : Fin (cfgA A).N) : Memref sig .tc .vmem S1x2048x1408 .bf16 := spec0_1.stage ((cfgA A).slots t (1 : Fin 5))
abbrev hs1 (t : Fin (cfgA A).N) : (ms1 A t).IsWhole := hstage0_1 (((cfgA A).slots t (1 : Fin 5)).cast nbuf0_1)
abbrev ms2 (t : Fin (cfgA A).N) : Memref sig .tc .vmem S1x2048x1408 .bf16 := spec0_2.stage ((cfgA A).slots t (2 : Fin 5))
abbrev hs2 (t : Fin (cfgA A).N) : (ms2 A t).IsWhole := hstage0_2 (((cfgA A).slots t (2 : Fin 5)).cast nbuf0_2)
abbrev ms3 (t : Fin (cfgA A).N) : Memref sig .tc .vmem S1x1408x2048 .bf16 := spec0_3.stage ((cfgA A).slots t (3 : Fin 5))
abbrev hs3 (t : Fin (cfgA A).N) : (ms3 A t).IsWhole := hstage0_3 (((cfgA A).slots t (3 : Fin 5)).cast nbuf0_3)
abbrev ms4 (t : Fin (cfgA A).N) : Memref sig .tc .vmem S5120x128 .f32 := spec0_4.stage ((cfgA A).slots t (4 : Fin 5))
abbrev hs4 (t : Fin (cfgA A).N) : (ms4 A t).IsWhole := hstage0_4 (((cfgA A).slots t (4 : Fin 5)).cast nbuf0_4)

/-- Block `t` is unused. -/
abbrev unused (t : Fin (cfgA A).N) : Prop := k0_cond1 (crd A t) (word (tabN A)) = 1#1

theorem flush_out (t : Fin grid0.N) : Pipeline.Window.flushOf grid0 true cc0_transform_4 t = true := by
  revert t; decide +kernel

theorem flush4 (t : Fin (cfgA A).N) : ((cfgA A).win (4 : Fin 5)).flush t = true := flush_out t

theorem stores_one (i : grid0.Coords) (v : BitVec 32) : (!(k0_cond1 i v == 1#1) && !(k0_cond2 i v == 1#1)) = false := by
  by_cases h : k0_cond1 i v = 1#1
  · rw [h]; rfl
  · rw [cond2_of_not i v h, Bool.and_eq_false_imp]; exact fun _ => rfl

theorem idle4 (t : Fin (cfgA A).N) : (cfgA A).idle (4 : Fin 5) ((cfgA A).grid.coords t) = false := stores_one _ _

theorem fresh4 (t : Fin (cfgA A).N) : (cfgA A).fresh (4 : Fin 5) t.val = true :=
  Pipeline.Cfg.fresh_tab (cfgA A) (4 : Fin 5) (fun _ => true) rfl (fun t => by rw [flush4]; rfl) t.val (Nat.le_of_lt t.isLt)

variable (m : (ℓ : Loc nD τ sig) → Buf (Elt F) ℓ) (ρ : Dev nD → PrngReg)

/-- Window `w`'s block at point `t` of its array at launch. -/
def iblk (c : Dev nD) (w : Fin (cfgA A).W) (t : Fin (cfgA A).N) : (((cfgA A).win w).xblock (crd A t)).Idx → Elt F ((cfgA A).win w).elt :=
  (((cfgA A).win w).blk t).view.read (Elt F) (m (((cfgA A).win w).arr.view.loc (c : Thread nD τ)))

/-- What point `t` leaves in the result's block. -/
def left (c : Dev nD) (t : Fin (cfgA A).N) : S5120x128.Idx → Elt F .f32 :=
  if h : unused A t then k0_pay1
  else View.canon (runUsed c (crd A t) (ms0 A t) (hs0 A t) (ms1 A t) (hs1 A t) (ms2 A t) (hs2 A t) (ms3 A t) (hs3 A t) (ms4 A t) (hs4 A t) (tabE A) (tabN A) (iblk A m c (0 : Fin 5) t) (iblk A m c (1 : Fin 5) t) (iblk A m c (2 : Fin 5) t) (iblk A m c (3 : Fin 5) t) h (cond2_of_not _ _ h)).1

/-- Before each point: the scratch at anything, and the body's halves of the tables. -/
def Phi (c : Dev nD) : sProp 𝕄 :=
  iprop((∃ a, (scr.view.loc (c : Thread nD τ) ↦{fullShare} a)) ∗ (tblE.view.loc (c : Thread nD τ) ↦{fullShare.right} tabE A) ∗ (tblN.view.loc (c : Thread nD τ) ↦{fullShare.right} tabN A))

/-- The proof data of the pipeline. -/
def dats (_ : Fin 1) (c : Dev nD) : Dat τ (Elt F) Unit ℕ (UR sig nD τ) ℕ (cfgA A) c where
  A w := m (((cfgA A).win w).arr.view.loc (c : Thread nD τ))
  after w t := match w with
    | ⟨0, _⟩ => iblk A m c (0 : Fin 5) t
    | ⟨1, _⟩ => iblk A m c (1 : Fin 5) t
    | ⟨2, _⟩ => iblk A m c (2 : Fin 5) t
    | ⟨3, _⟩ => iblk A m c (3 : Fin 5) t
    | ⟨4, _⟩ => left A m c t
  Φ _ := Phi A c
  q _ := fullShare
  owed _ := 0

theorem after0 (c : Dev nD) (t : Fin (cfgA A).N) : (dats A m 0 c).after (0 : Fin 5) t = iblk A m c (0 : Fin 5) t := rfl
theorem after1 (c : Dev nD) (t : Fin (cfgA A).N) : (dats A m 0 c).after (1 : Fin 5) t = iblk A m c (1 : Fin 5) t := rfl
theorem after2 (c : Dev nD) (t : Fin (cfgA A).N) : (dats A m 0 c).after (2 : Fin 5) t = iblk A m c (2 : Fin 5) t := rfl
theorem after3 (c : Dev nD) (t : Fin (cfgA A).N) : (dats A m 0 c).after (3 : Fin 5) t = iblk A m c (3 : Fin 5) t := rfl
theorem after4 (c : Dev nD) (t : Fin (cfgA A).N) : (dats A m 0 c).after (4 : Fin 5) t = left A m c t := rfl

/-- An input's staging buffer holds its block when the body runs. -/
theorem before0 (c : Dev nD) (t : Fin (cfgA A).N) (d) : (dats A m 0 c).before (0 : Fin 5) t d = iblk A m c (0 : Fin 5) t :=
  ((dats A m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA A).N) (d) : (dats A m 0 c).before (1 : Fin 5) t d = iblk A m c (1 : Fin 5) t :=
  ((dats A m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA A).N) (d) : (dats A m 0 c).before (2 : Fin 5) t d = iblk A m c (2 : Fin 5) t :=
  ((dats A m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA A).N) (d) : (dats A m 0 c).before (3 : Fin 5) t d = iblk A m c (3 : Fin 5) t :=
  ((dats A m 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body's obligation -/

abbrev bodyAt (t : Fin (cfgA A).N) : Prog (TpuEff nD τ sig (Elt F) Λ₀ .tc) PUnit :=
  cc0_moe_experts (crd A t) (Memref.whole main_arg1) (Memref.isWhole_whole _) (Memref.whole main_arg2) (Memref.isWhole_whole _) (ms0 A t) (hs0 A t) (ms1 A t) (hs1 A t) (ms2 A t) (hs2 A t) (ms3 A t) (hs3 A t) (ms4 A t) (hs4 A t) (Memref.whole cc0_scratch0) (Memref.isWhole_whole _)

set_option maxHeartbeats 4000000 in
/-- At point `t`, on either path, the body leaves each input's block as it was and `left` in the result's. -/
theorem sound_body (c : Dev nD) (t : Fin (cfgA A).N) :
    iprop((dats A m 0 c).Φ t.castSucc ∗ (dats A m 0 c).owesAt () t.castSucc
        ∗ (∃ d, owns (c : Thread nD τ) (ms0 A t) fullShare ((dats A m 0 c).before (0 : Fin 5) t d))
        ∗ (∃ d, owns (c : Thread nD τ) (ms1 A t) fullShare ((dats A m 0 c).before (1 : Fin 5) t d))
        ∗ (∃ d, owns (c : Thread nD τ) (ms2 A t) fullShare ((dats A m 0 c).before (2 : Fin 5) t d))
        ∗ (∃ d, owns (c : Thread nD τ) (ms3 A t) fullShare ((dats A m 0 c).before (3 : Fin 5) t d))
        ∗ (∃ d, owns (c : Thread nD τ) (ms4 A t) fullShare ((dats A m 0 c).before (4 : Fin 5) t d)))
      ⊢ wp frame (wpE (defs₀ (F := F)) Variants.none c none) Set.univ (bodyAt A t) fun _ =>
          iprop((dats A m 0 c).Φ t.succ ∗ (dats A m 0 c).owesAt () t.succ
            ∗ bigSep Finset.univ fun w : Fin (cfgA A).W =>
                match (cfgA A).idle w ((cfgA A).grid.coords t) with
                | true =>
                  match ((cfgA A).win w).flush t with
                  | false => iprop(∃ d, owns (c : Thread nD τ) (((cfgA A).win w).stage ((cfgA A).slots t w)) fullShare ((dats A m 0 c).before w t d))
                  | true => owns (c : Thread nD τ) (((cfgA A).win w).stage ((cfgA A).slots t w)) fullShare ((dats A m 0 c).after w t)
                | false => owns (c : Thread nD τ) (((cfgA A).win w).stage ((cfgA A).slots t w)) fullShare ((dats A m 0 c).after w t)) := by
  rw [bigSep_W0]
  rewrite [idle4 A t]
  simp only [before0, before1, before2, before3, after0, after1, after2, after3, after4]
  rewrite [show (dats A m 0 c).Φ t.succ = Phi A c from rfl, show (dats A m 0 c).Φ t.castSucc = Phi A c from rfl,
    show (dats A m 0 c).owesAt () t.succ = (dats A m 0 c).owesAt () t.castSucc from rfl]
  unfold Phi
  by_cases h : unused A t
  · rewrite [show left A m c t = k0_pay1 from dif_pos h]
    iintro ⟨⟨⟨%a0, HS0⟩, HT0, HT1⟩, Ho, ⟨%d0, H0⟩, ⟨%d1, H1⟩, ⟨%d2, H2⟩, ⟨%d3, H3⟩, ⟨%d4, H4⟩⟩
    iapply ((runUnused c (crd A t) (ms0 A t) (hs0 A t) (ms1 A t) (hs1 A t) (ms2 A t) (hs2 A t) (ms3 A t) (hs3 A t) (ms4 A t) (hs4 A t) (tabE A) (tabN A) (iblk A m c (0 : Fin 5) t) (iblk A m c (1 : Fin 5) t) (iblk A m c (2 : Fin 5) t) (iblk A m c (3 : Fin 5) t) a0 h (not_cond2 _ _ h)).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 HT0 HT1]
    · isplitl [HS0]; · iexists _; iexact HS0
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      rw [View.read_writes_eq_canon _ _ _ (cover_unused c _ _ _ _ _ _ _ _ _ _ _ _ _ _ _ _ _ _ _ _), pieces_unused]
      exact View.canon_unit_zero (by funext a; match a with | ⟨0, _⟩ => rfl | ⟨1, _⟩ => rfl) _ _
  · rewrite [show left A m c t = View.canon _ from dif_neg h]
    iintro ⟨⟨⟨%a0, HS0⟩, HT0, HT1⟩, Ho, ⟨%d0, H0⟩, ⟨%d1, H1⟩, ⟨%d2, H2⟩, ⟨%d3, H3⟩, ⟨%d4, H4⟩⟩
    iapply ((runUsed c (crd A t) (ms0 A t) (hs0 A t) (ms1 A t) (hs1 A t) (ms2 A t) (hs2 A t) (ms3 A t) (hs3 A t) (ms4 A t) (hs4 A t) (tabE A) (tabN A) (iblk A m c (0 : Fin 5) t) (iblk A m c (1 : Fin 5) t) (iblk A m c (2 : Fin 5) t) (iblk A m c (3 : Fin 5) t) h (cond2_of_not _ _ h)).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 HT0 HT1]
    · isplitl [HS0]; · iexists _; iexact HS0
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      exact View.read_writes_eq_canon _ _ _ (cover_used c _ _ _ _ _ _ _ _ _ _ _ _ _ _ _ _ _ _ _)

theorem body_obligation (c : Dev nD) : BodyObligation (dats A m 0 c) (defs₀ (F := F)) Variants.none () Set.univ := fun t => by
  rw [bigSep_W0]
  exact sound_body A m c t

/-! ## The launch -/

/-- The launch element of the staging cells. -/
def u₀ : UR sig nD τ :=
  initOf (Pipeline.cells (pcs A) ((launch0 (F := F)).cellOf_inj fun _ => A))
    (Pipeline.launchToks (pcs A) ((launch0 (F := F)).cellOf_inj fun _ => A))

theorem share_eq (c : Dev nD) (w : Fin (cfgA A).W) : (dats A m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) A.1 ∗ Pipeline.scopedRest spec0 c) ⊢ (dats A m 0 c).Φ 0 := by
  rw [prefHeld_eq, scopedRest0_eq, show (dats A m 0 c).Φ 0 = Phi A c from rfl]
  unfold Phi
  iintro ⟨-, ⟨HT0, HT1⟩, HS0⟩
  isplitl [HS0]; · iexact HS0
  isplitl [HT0]; · iexact HT0
  iexact HT1

theorem phi_last (c : Dev nD) : (dats A m 0 c).Φ (Fin.last (cfgA A).N) ⊢ iprop(BI.emp ∗ Pipeline.scopedRest spec0 c) := by
  rw [scopedRest0_eq, show (dats A m 0 c).Φ (Fin.last (cfgA A).N) = Phi A c from rfl]
  unfold Phi
  iintro ⟨HS0, -, -⟩
  isplitr; · iempintro
  iexact HS0

/-- The tables are what the launch memory holds. -/
def Tables : Prop := ∀ (c : Dev nD) (j : Fin 2), m ((c : Thread nD τ).loc (pre0.ref j)) = A.1 j

set_option backward.isDefEq.respectTransparency.types false in
set_option maxHeartbeats 4000000 in
/-- From a launch memory with these tables every execution terminates, each array ends at what the pipeline computes, each
    table as it was, and every counter at zero. -/
theorem run_experts (hT : Tables A m) : θ_run (defs (F := F)) (onTc (τ := τ) (main (F := F))) ⟨m, fun _ => 0, ρ⟩ (fun r =>
    (∀ c : Dev nD, (∀ w : Fin (cfgA A).W, r.2.mem (((cfgA A).win w).arr.view.loc (c : Thread nD τ)) = (dats A m 0 c).arrAt w (cfgA A).N)
      ∧ ∀ j, r.2.mem ((c : Thread nD τ).loc (pre0.ref j)) = A.1 j)
    ∧ r.2.sem = fun _ => 0) :=
  Pipeline.θ_run_region_noSem_pf_quiescent pcfgs (fun _ => A) (dats A m) () ((launch0 (F := F)).cellOf_inj fun _ => A) (0 : Fin 1)
    (launch0 (F := F)).win.to₀ (launch0 (F := F)).pre EP defs₀ Variants.none m ρ main
    (hbody := fun c => (body_obligation A m c).loose) (hne := (launch0 (F := F)).block_pos)
    (harr := (launch0 (F := F)).arr_whole) (hstage := (launch0 (F := F)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs A) (dats A m) 0 (launch0 (F := F)).win.arr_inj c (launch0 (F := F)).arr_whole
      (share_eq A m c) _ _ fun _ => rfl)
    (hpf := hT)
    (X := fun _ => iprop(emp)) (Y := fun _ => iprop(emp)) (Z := fun _ => iprop(emp))
    (hX := fun c => by rw [unscopedRestP0_eq]; iintro -; isplitr <;> iempintro)
    (hin := phi_first A m)
    (hout := phi_last A m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result ends at what the pipeline computes, and the argument arrays unchanged. -/
theorem result_experts (hT : Tables A m) :
    θ_run (defs (F := F)) (onTc (τ := τ) (main (F := F))) ⟨m, fun _ => 0, ρ⟩ (fun r => (∀ c : Dev nD,
      r.2.mem ((c.tc : Thread nD τ).loc main_v0) = (dats A m 0 c).arrAt (4 : Fin 5) (cfgA A).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats A m 0 c).arrAt_in (0 : Fin 5) rfl _), ((h.1 c).2 0).trans (hT c 0).symm, ((h.1 c).2 1).trans (hT c 1).symm,
    ((h.1 c).1 (1 : Fin 5)).trans ((dats A m 0 c).arrAt_in (1 : Fin 5) rfl _), ((h.1 c).1 (2 : Fin 5)).trans ((dats A m 0 c).arrAt_in (2 : Fin 5) rfl _), ((h.1 c).1 (3 : Fin 5)).trans ((dats A m 0 c).arrAt_in (3 : Fin 5) rfl _)⟩, h.2⟩) (run_experts A m ρ hT)

/-- The argument arrays end unchanged. -/
theorem frame_experts (hT : Tables A m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (result_experts A m ρ hT)

end Cert.Kernel2Ideal.Exp

end
-- ==== Proof.ExpValue.lean ====
/-
  What a used block holds after the experts' body, at the ideal values: the gated products of its rows with its
  expert's three matrices, read at an index.
-/
module

public import proofs.«01_k».proof.Proof.ExpFrame
public import Idealize.ShloMosaic.PureOps.Ideal.Laws
public import Idealize.ShloMosaic.Lib.KernelVsHost
public import Idealize.ShloMosaic.Lib.StackMember
public import Idealize.ShloMosaic.Lib.Pipeline.FrameBody
public import Idealize.ShloMosaic.Lib.Pipeline.Value

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.ValueIdx
open Idealize.SL.Sem

/-! ## The vocabulary -/

/-- Entry `d` of row `r` of a block of slabs: a row is sixteen chunks of 128 entries of its slab of twenty. -/
def entry (x : S5120x128.Idx → EReal) (r : Fin 256) (d : Fin 2048) : EReal :=
  x (ix2 ⟨20 * r.val + d.val / 128, by omega⟩ ⟨d.val % 128, by omega⟩)

/-- A row's product with column `f` of a weight matrix. -/
def proj (x : S5120x128.Idx → EReal) (w : S1x2048x1408.Idx → EReal) (r : Fin 256) (f : Fin 1408) : EReal :=
  ∑ d : Fin 2048, entry x r d * w (ix3 (0 : Fin 1) d f)

/-- A row's gated hidden entry: silu of the gate's product times the other product. -/
def hid (x : S5120x128.Idx → EReal) (wg wu : S1x2048x1408.Idx → EReal) (r : Fin 256) (f : Fin 1408) : EReal :=
  proj x wg r f * Ideal.logistic (proj x wg r f) * proj x wu r f

/-- A row's result entry `e`: the hidden entries' product with column `e` of the last matrix. -/
def res (x : S5120x128.Idx → EReal) (wg wu : S1x2048x1408.Idx → EReal) (wd : S1x1408x2048.Idx → EReal) (r : Fin 256) (e : Fin 2048) : EReal :=
  ∑ f : Fin 1408, hid x wg wu r f * wd (ix3 (0 : Fin 1) f e)

/-- The block of slabs that a used block leaves: sixteen chunks of each row's results, then four of zeros. -/
def slabs (x : S5120x128.Idx → EReal) (wg wu : S1x2048x1408.Idx → EReal) (wd : S1x1408x2048.Idx → EReal) (p : Fin 5120) (l : Fin 128) : EReal :=
  if h : p.val % 20 < 16 then res x wg wu wd ⟨p.val / 20, by omega⟩ ⟨128 * (p.val % 20) + l.val, by omega⟩ else 0

/-! ## The operations read at an index -/

/-- A matrix product into zeros. -/
theorem product_apply {m k n : ℕ} {φ₁ φ₂ : FTy} (A : FVec Ideal ⟨2, ![m, k]⟩ φ₁) (B : FVec Ideal ⟨2, ![k, n]⟩ φ₂) (r : Fin m) (c : Fin n) :
    matmul (DotDims.plain m k n) none A B (constant ⟨2, ![m, n]⟩ .f32 0x00000000#32) (ix2 r c) = ∑ j : Fin k, A (ix2 r j) * B (ix2 j c) := by
  rw [matmul_zero_eq_dotGeneral]
  exact StackMember.dotGeneral_plain_apply none A B r c

section
variable {κ : Kind} {sp : Space} {sig' : RefSig}

/-- Columns `o` to `o + n` of a one-matrix stack, loaded and read as a matrix. -/
theorem columns {a b n o : ℕ} {e : EltTy} (v : View sig' κ sp ⟨3, ![1, a, b]⟩ e) (x : (⟨3, ![1, a, b]⟩ : Shape).Idx → Elt Ideal e)
    (inb : ∀ i, (![0, 0, o] : Fin 3 → ℕ) i + (![1, a, n] : Fin 3 → ℕ) i ≤ (⟨3, ![1, a, b]⟩ : Shape).size i)
    (hc : (⟨3, ![1, a, n]⟩ : Shape).ShapeCasts ⟨2, ![a, n]⟩) (d : Fin a) (f : Fin n) (g : Fin b) (hg : g.val = o + f.val) :
    shapeCast ⟨2, ![a, n]⟩ (View.readAt (Elt Ideal) v (Rect.unit (s := ⟨3, ![1, a, b]⟩) ![0, 0, o] ![1, a, n] inb).toLoadRect (v.rep x)) hc (ix2 d f) = x (ix3 (0 : Fin 1) d g) := by
  refine (shapeCast_dropUnit_apply (n := 2) (![a, n] : Fin 2 → ℕ) _ hc (ix2 d f)).trans ?_
  rw [View.readAt_rep]
  refine congrArg x (funext fun i => Fin.ext ?_)
  match i with
  | ⟨0, _⟩ => rfl
  | ⟨1, _⟩ => show 0 + 1 * d.val = d.val; omega
  | ⟨2, _⟩ => show o + 1 * f.val = g.val; omega

/-- A strip of a block of slabs, loaded. -/
theorem strip_read (v : View sig' κ sp S5120x128 .f32) (x : S5120x128.Idx → Elt Ideal .f32) (k : ℕ) (inb) (r : Fin 256) (l : Fin 128) (p : Fin 5120)
    (hp : p.val = k + 20 * r.val) :
    View.readAt (Elt Ideal) v (⟨![k, 0], S256x128.size, ![20, 1], inb⟩ : LoadRect S5120x128) (v.rep x) (ix2 r l) = x (ix2 p l) := by
  rw [View.readAt_rep]
  refine congrArg x (funext fun i => Fin.ext ?_)
  match i with
  | ⟨0, _⟩ => exact hp.symm
  | ⟨1, _⟩ => show 0 + 1 * l.val = l.val; omega

end

/-- Sixteen strips side by side. -/
theorem sideBySide (v : Fin 16 → Vec Ideal S256x128 .f32) (r : Fin 256) (d : Fin 2048) :
    k0_pay6 (F := Ideal) (v 0) (v 1) (v 2) (v 3) (v 4) (v 5) (v 6) (v 7) (v 8) (v 9) (v 10) (v 11) (v 12) (v 13) (v 14) (v 15) (ix2 r d)
      = v ⟨d.val / 128, by omega⟩ (ix2 r ⟨d.val % 128, by omega⟩) :=
  concatenate_ofFn_apply (t := S256x2048) (s₁ := S256x128) (1 : Fin 2) v concatenates_S256x128_S256x128_S256x128_S256x128_S256x128_S256x128_S256x128_S256x128_S256x128_S256x128_S256x128_S256x128_S256x128_S256x128_S256x128_S256x128_S256x2048_d1 rfl 128 rfl (ix2 r d) ⟨d.val / 128, by omega⟩ rfl (ix2 r ⟨d.val % 128, by omega⟩) rfl
    fun b hb => match b, hb with
      | ⟨0, _⟩, _ => rfl
      | ⟨1, _⟩, hb => absurd rfl hb

section
variable (arg3 : Memref sig .tc .vmem S5120x128 .f32) (arg4 arg5 : Memref sig .tc .vmem S1x2048x1408 .bf16) (arg6 : Memref sig .tc .vmem S1x1408x2048 .bf16)
  (x0 : S5120x128.Idx → Elt Ideal .f32) (x1 x2 : S1x2048x1408.Idx → Elt Ideal .bf16) (x3 : S1x1408x2048.Idx → Elt Ideal .bf16)

theorem inb_load (k : Fin 16) : ∀ a : Fin S5120x128.rank,
    S256x128.size a = 0 ∨ (![(k : ℕ), 0] : Fin 2 → ℕ) a + (![20, 1] : Fin 2 → ℕ) a * (S256x128.size a - 1) < S5120x128.size a :=
  inb_strip ⟨k.val, by omega⟩

/-- The rows as the products take them. -/
theorem rows_apply (r : Fin 256) (d : Fin 2048) : runUsed.sl.v25 (F := Ideal) arg3 x0 (ix2 r d) = entry x0 r d :=
  (sideBySide (fun k => View.readAt (Elt Ideal) arg3.view (⟨![(k : ℕ), 0], S256x128.size, ![20, 1], inb_load k⟩ : LoadRect S5120x128) (arg3.view.rep x0)) r d).trans
    (strip_read arg3.view x0 (d.val / 128) _ r _ _ (Nat.add_comm _ _))

/-- A chunk of the rows' products with a weight matrix. -/
theorem proj_wide (v : Memref sig .tc .vmem S1x2048x1408 .bf16) (w : S1x2048x1408.Idx → Elt Ideal .bf16) (o : ℕ)
    (inb : ∀ i, (![0, 0, o] : Fin 3 → ℕ) i + S1x2048x512.size i ≤ S1x2048x1408.size i) (r : Fin 256) (f : Fin 512) (g : Fin 1408) (hg : g.val = o + f.val) :
    k0_pay7 (F := Ideal) (runUsed.sl.v25 arg3 x0) (View.readAt (Elt Ideal) v.view (Rect.unit (s := S1x2048x1408) ![0, 0, o] S1x2048x512.size inb).toLoadRect (v.view.rep w)) (ix2 r f)
      = proj x0 w r g :=
  (product_apply (m := 256) (k := 2048) (n := 512) _ _ r f).trans (Finset.sum_congr rfl fun d _ => by
    rw [rows_apply]
    exact congrArg (entry x0 r d * ·) (columns (a := 2048) (b := 1408) (n := 512) (o := o) v.view w inb shapeCasts_S1x2048x512_S2048x512 d f g hg))

theorem proj_last (v : Memref sig .tc .vmem S1x2048x1408 .bf16) (w : S1x2048x1408.Idx → Elt Ideal .bf16) (o : ℕ)
    (inb : ∀ i, (![0, 0, o] : Fin 3 → ℕ) i + S1x2048x384.size i ≤ S1x2048x1408.size i) (r : Fin 256) (f : Fin 384) (g : Fin 1408) (hg : g.val = o + f.val) :
    matmul (φ₁ := .bf16) (φ₂ := .bf16) dot_S256x2048_S2048x384_S256x384_1_0_0_1_n_n none (runUsed.sl.v25 (F := Ideal) arg3 x0) (shapeCast (α := Elt Ideal .bf16) S2048x384 (View.readAt (Elt Ideal) v.view (Rect.unit (s := S1x2048x1408) ![0, 0, o] S1x2048x384.size inb).toLoadRect (v.view.rep w)) shapeCasts_S1x2048x384_S2048x384) (constant S256x384 .f32 0x00000000#32) (ix2 r f)
      = proj x0 w r g :=
  (product_apply (m := 256) (k := 2048) (n := 384) _ _ r f).trans (Finset.sum_congr rfl fun d _ => by
    rw [rows_apply]
    exact congrArg (entry x0 r d * ·) (columns (a := 2048) (b := 1408) (n := 384) (o := o) v.view w inb shapeCasts_S1x2048x384_S2048x384 d f g hg))

/-- The three chunks of hidden entries that the scratch takes. -/
theorem hid_first (r : Fin 256) (f : Fin 512) (g : Fin 1408) (hg : g.val = 0 + f.val) (inb) :
    k0_pay8 (F := Ideal) (runUsed.sl.v25 arg3 x0) (runUsed.sl.r_1 arg3 arg4 x0 x1) (View.readAt (Elt Ideal) arg5.view (Rect.unit (s := S1x2048x1408) ![0, 0, 0] S1x2048x512.size inb).toLoadRect (arg5.view.rep x2)) (ix2 r f)
      = hid x0 x1 x2 r g := by
  have hu := proj_wide arg3 x0 arg5 x2 0 inb r f g hg
  have hv := proj_wide arg3 x0 arg4 x1 0 inb r f g hg
  have e : runUsed.sl.r_1 (F := Ideal) arg3 arg4 x0 x1 (ix2 r f) = proj x0 x1 r g := hv
  unfold k0_pay8; dsimp only
  refine (shapeCast_apply _ _ (ix2 r f) (ix2 r f) rfl).trans ?_
  show runUsed.sl.r_1 (F := Ideal) arg3 arg4 x0 x1 (ix2 r f) * Ideal.logistic (runUsed.sl.r_1 (F := Ideal) arg3 arg4 x0 x1 (ix2 r f)) * k0_pay7 (F := Ideal) _ _ (ix2 r f) = _
  rw [hu, e]; rfl

theorem hid_second (r : Fin 256) (f : Fin 512) (g : Fin 1408) (o : ℕ) (hg : g.val = o + f.val)
    (inb : ∀ i, (![0, 0, o] : Fin 3 → ℕ) i + S1x2048x512.size i ≤ S1x2048x1408.size i) :
    k0_pay9 (F := Ideal) (runUsed.sl.v25 arg3 x0) (View.readAt (Elt Ideal) arg4.view (Rect.unit (s := S1x2048x1408) ![0, 0, o] S1x2048x512.size inb).toLoadRect (arg4.view.rep x1))
      (View.readAt (Elt Ideal) arg5.view (Rect.unit (s := S1x2048x1408) ![0, 0, o] S1x2048x512.size inb).toLoadRect (arg5.view.rep x2)) (ix2 r f)
      = hid x0 x1 x2 r g := by
  have hu := proj_wide arg3 x0 arg5 x2 o inb r f g hg
  have hv := proj_wide arg3 x0 arg4 x1 o inb r f g hg
  unfold k0_pay9; dsimp only
  refine (shapeCast_apply _ _ (ix2 r f) (ix2 r f) rfl).trans ?_
  show k0_pay7 (F := Ideal) _ _ (ix2 r f) * Ideal.logistic (k0_pay7 (F := Ideal) _ _ (ix2 r f)) * k0_pay7 (F := Ideal) _ _ (ix2 r f) = _
  rw [hu, hv]; rfl

theorem hid_last (r : Fin 256) (f : Fin 384) (g : Fin 1408) (hg : g.val = 1024 + f.val) :
    k0_pay11 (F := Ideal) (runUsed.sl.r_2 arg3 arg4 arg5 x0 x1 x2) (ix2 r f) = hid x0 x1 x2 r g := by
  have hu := proj_last arg3 x0 arg5 x2 1024 inb_S1x2048x1408_S1x2048x384_0_0_1024 r f g hg
  have hv := proj_last arg3 x0 arg4 x1 1024 inb_S1x2048x1408_S1x2048x384_0_0_1024 r f g hg
  unfold k0_pay11
  refine (shapeCast_apply _ _ (ix2 r f) (ix2 r f) rfl).trans ?_
  exact congrArg₂ (fun a b : EReal => a * Ideal.logistic a * b) hv hu

/-- The scratch as the last products take it. -/
theorem scratch_apply (r : Fin 256) (g : Fin 1408) : runUsed.sl.v65 (F := Ideal) arg3 arg4 arg5 x0 x1 x2 (ix2 r g) = hid x0 x1 x2 r g := by
  unfold runUsed.sl.v65
  rw [View.readCov_eq_canon']
  have hi : (Rect.unit (s := S256x1408) ![0, 0] S256x1408.size inb_S256x1408_S256x1408_0_0).toLoadRect.idx (ix2 r g) = ix2 r g :=
    funext fun a => Fin.ext (match a with
      | ⟨0, _⟩ => show 0 + 1 * r.val = r.val by omega
      | ⟨1, _⟩ => show 0 + 1 * g.val = g.val by omega)
  show View.canon _ ((Rect.unit (s := S256x1408) ![0, 0] S256x1408.size inb_S256x1408_S256x1408_0_0).toLoadRect.idx (ix2 r g)) = _
  rw [hi]
  refine View.canon_apply_of_pieces (Val := Elt Ideal) (e := .bf16) (fun y : S256x1408.Idx => hid x0 x1 x2 (y 0) (y 1)) _ ?_ (ix2 r g) ?_
  · unfold runUsed.sl.HS0_3
    simp only [List.forall_mem_cons, List.not_mem_nil, false_imp_iff, implies_true, and_true]
    refine ⟨fun x => ?_, fun x => ?_, fun x => ?_⟩
    · have h : (x 1).val < 384 := (x 1).isLt
      refine (congrArg _ (eq_ix2 (n0 := 256) (n1 := 384) x)).trans ((hid_last arg3 arg4 arg5 x0 x1 x2 (x 0) (x 1) ⟨1024 + (x 1).val, by omega⟩ rfl).trans ?_)
      exact congrArg₂ (hid x0 x1 x2) (Fin.ext (show (x 0).val = 0 + 1 * (x 0).val by omega)) (Fin.ext (show 1024 + (x 1).val = 1024 + 1 * (x 1).val by omega))
    · have h : (x 1).val < 512 := (x 1).isLt
      refine (congrArg _ (eq_ix2 (n0 := 256) (n1 := 512) x)).trans ((hid_second arg3 arg4 arg5 x0 x1 x2 (x 0) (x 1) ⟨512 + (x 1).val, by omega⟩ 512 rfl inb_S1x2048x1408_S1x2048x512_0_0_512).trans ?_)
      exact congrArg₂ (hid x0 x1 x2) (Fin.ext (show (x 0).val = 0 + 1 * (x 0).val by omega)) (Fin.ext (show 512 + (x 1).val = 512 + 1 * (x 1).val by omega))
    · have h : (x 1).val < 512 := (x 1).isLt
      refine (congrArg _ (eq_ix2 (n0 := 256) (n1 := 512) x)).trans ((hid_first arg3 arg4 arg5 x0 x1 x2 (x 0) (x 1) ⟨0 + (x 1).val, by omega⟩ rfl inb_S1x2048x1408_S1x2048x512_0_0_0).trans ?_)
      exact congrArg₂ (hid x0 x1 x2) (Fin.ext (show (x 0).val = 0 + 1 * (x 0).val by omega)) (Fin.ext (show 0 + (x 1).val = 0 + 1 * (x 1).val by omega))
  · unfold runUsed.sl.HS0_3
    simp only [List.mem_cons, List.not_mem_nil, or_false, exists_eq_or_imp, exists_eq_left, Rect.mem_set_unit]
    by_cases h1 : g.val < 512
    · refine Or.inr (Or.inr fun a => ?_)
      match a with
      | ⟨0, _⟩ => exact ⟨Nat.zero_le _, show r.val < 0 + 256 by omega⟩
      | ⟨1, _⟩ => exact ⟨Nat.zero_le _, show g.val < 0 + 512 by omega⟩
    by_cases h2 : g.val < 1024
    · refine Or.inr (Or.inl fun a => ?_)
      match a with
      | ⟨0, _⟩ => exact ⟨Nat.zero_le _, show r.val < 0 + 256 by omega⟩
      | ⟨1, _⟩ => exact ⟨show 512 ≤ g.val by omega, show g.val < 512 + 512 by omega⟩
    · refine Or.inl fun a => ?_
      match a with
      | ⟨0, _⟩ => exact ⟨Nat.zero_le _, show r.val < 0 + 256 by omega⟩
      | ⟨1, _⟩ => exact ⟨show 1024 ≤ g.val by omega, show g.val < 1024 + 384 by omega⟩

/-- A quarter of the last products. -/
theorem res_wide (o : ℕ) (inb : ∀ i, (![0, 0, o] : Fin 3 → ℕ) i + S1x1408x512.size i ≤ S1x1408x2048.size i) (r : Fin 256) (f : Fin 512) (e : Fin 2048) (he : e.val = o + f.val) :
    k0_pay12 (F := Ideal) (runUsed.sl.v65 arg3 arg4 arg5 x0 x1 x2) (View.readAt (Elt Ideal) arg6.view (Rect.unit (s := S1x1408x2048) ![0, 0, o] S1x1408x512.size inb).toLoadRect (arg6.view.rep x3)) (ix2 r f)
      = res x0 x1 x2 x3 r e :=
  (product_apply (m := 256) (k := 1408) (n := 512) _ _ r f).trans (Finset.sum_congr rfl fun d _ => by
    rw [scratch_apply]
    exact congrArg (hid x0 x1 x2 r d * ·) (columns (a := 1408) (b := 2048) (n := 512) (o := o) arg6.view x3 inb shapeCasts_S1x1408x512_S1408x512 d f e he))

/-- A chunk of a quarter, as a store takes it. -/
theorem chunk_apply (k : Fin 20) (hk : k.val < 16) (o q : ℕ) (hq : 128 * k.val = o + q) (hq' : q ≤ 384)
    (inb : ∀ i, (![0, 0, o] : Fin 3 → ℕ) i + S1x1408x512.size i ≤ S1x1408x2048.size i)
    (hs : S256x512.Slices (![0, q] : Fin 2 → ℕ) S256x128) (x : S256x128.Idx) :
    extractStridedSlice S256x128 ![0, q] (k0_pay12 (F := Ideal) (runUsed.sl.v65 arg3 arg4 arg5 x0 x1 x2) (View.readAt (Elt Ideal) arg6.view (Rect.unit (s := S1x1408x2048) ![0, 0, o] S1x1408x512.size inb).toLoadRect (arg6.view.rep x3))) hs x
      = slabs x0 x1 x2 x3 ((strip k).emb x 0) ((strip k).emb x 1) := by
  have h0 : (x 0).val < 256 := (x 0).isLt
  have h1 : (x 1).val < 128 := (x 1).isLt
  have e0 : ((strip k).emb x 0).val = k.val + 20 * (x 0).val := rfl
  have e1 : ((strip k).emb x 1).val = 0 + 1 * (x 1).val := rfl
  refine (extractStridedSlice_apply _ _ hs x (ix2 (n0 := 256) (n1 := 512) (x 0) ⟨q + (x 1).val, by omega⟩) fun a => match a with
    | ⟨0, _⟩ => (Nat.zero_add _).symm
    | ⟨1, _⟩ => rfl).trans ?_
  refine (res_wide arg3 arg4 arg5 arg6 x0 x1 x2 x3 o inb (x 0) ⟨q + (x 1).val, by omega⟩ ⟨128 * k.val + (x 1).val, by omega⟩ (show 128 * k.val + (x 1).val = o + (q + (x 1).val) by omega)).trans ?_
  unfold slabs
  rw [dif_pos (by omega : ((strip k).emb x 0).val % 20 < 16)]
  exact congrArg₂ (res x0 x1 x2 x3) (Fin.ext (show (x 0).val = ((strip k).emb x 0).val / 20 by omega))
    (Fin.ext (show 128 * k.val + (x 1).val = 128 * (((strip k).emb x 0).val % 20) + ((strip k).emb x 1).val by omega))

theorem zeros_apply (k : Fin 20) (hk : ¬k.val < 16) (x : S256x128.Idx) :
    (0 : EReal) = slabs x0 x1 x2 x3 ((strip k).emb x 0) ((strip k).emb x 1) := by
  have h0 : (x 0).val < 256 := (x 0).isLt
  have e0 : ((strip k).emb x 0).val = k.val + 20 * (x 0).val := rfl
  unfold slabs
  rw [dif_neg (by omega : ¬((strip k).emb x 0).val % 20 < 16)]

end

/-- What a used block's stores leave, read at an index. -/
theorem used_apply (c : Dev nD) (i : grid0.Coords) (arg3 : Memref sig .tc .vmem S5120x128 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S5120x128 .f32) (harg7 : arg7.IsWhole)
    (T0 : S82.Idx → Elt Ideal .i32) (T1 : S1.Idx → Elt Ideal .i32)
    (x0 : S5120x128.Idx → Elt Ideal .f32) (x1 x2 : S1x2048x1408.Idx → Elt Ideal .bf16) (x3 : S1x1408x2048.Idx → Elt Ideal .bf16) (h1) (h2) (p : Fin 5120) (l : Fin 128) :
    View.canon (runUsed c i arg3 harg3 arg4 harg4 arg5 harg5 arg6 harg6 arg7 harg7 T0 T1 x0 x1 x2 x3 h1 h2).1 (ix2 p l) = slabs x0 x1 x2 x3 p l := by
  refine View.canon_apply_of_pieces (Val := Elt Ideal) (e := .f32) (fun y : S5120x128.Idx => slabs x0 x1 x2 x3 (y 0) (y 1)) _ ?_ (ix2 p l) (cover_used c i arg3 harg3 arg4 harg4 arg5 harg5 arg6 harg6 arg7 harg7 T0 T1 x0 x1 x2 x3 h1 h2 (ix2 p l))
  unfold runUsed; dsimp only
  simp only [List.forall_mem_cons, List.not_mem_nil, false_imp_iff, implies_true, and_true]
  have Z : Ideal.ofBits .f32 0x00000000#32 = 0 := Ideal.ofBits_zero_f32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact Z.trans (zeros_apply x0 x1 x2 x3 19 (by decide) x)
  · exact Z.trans (zeros_apply x0 x1 x2 x3 18 (by decide) x)
  · exact Z.trans (zeros_apply x0 x1 x2 x3 17 (by decide) x)
  · exact Z.trans (zeros_apply x0 x1 x2 x3 16 (by decide) x)
  · exact chunk_apply arg3 arg4 arg5 arg6 x0 x1 x2 x3 15 (by decide) 1536 384 rfl (by decide) _ slices_S256x512_o0_384_S256x128 x
  · exact chunk_apply arg3 arg4 arg5 arg6 x0 x1 x2 x3 14 (by decide) 1536 256 rfl (by decide) _ slices_S256x512_o0_256_S256x128 x
  · exact chunk_apply arg3 arg4 arg5 arg6 x0 x1 x2 x3 13 (by decide) 1536 128 rfl (by decide) _ slices_S256x512_o0_128_S256x128 x
  · exact chunk_apply arg3 arg4 arg5 arg6 x0 x1 x2 x3 12 (by decide) 1536 0 rfl (by decide) _ slices_S256x512_o0_0_S256x128 x
  · exact chunk_apply arg3 arg4 arg5 arg6 x0 x1 x2 x3 11 (by decide) 1024 384 rfl (by decide) _ slices_S256x512_o0_384_S256x128 x
  · exact chunk_apply arg3 arg4 arg5 arg6 x0 x1 x2 x3 10 (by decide) 1024 256 rfl (by decide) _ slices_S256x512_o0_256_S256x128 x
  · exact chunk_apply arg3 arg4 arg5 arg6 x0 x1 x2 x3 9 (by decide) 1024 128 rfl (by decide) _ slices_S256x512_o0_128_S256x128 x
  · exact chunk_apply arg3 arg4 arg5 arg6 x0 x1 x2 x3 8 (by decide) 1024 0 rfl (by decide) _ slices_S256x512_o0_0_S256x128 x
  · exact chunk_apply arg3 arg4 arg5 arg6 x0 x1 x2 x3 7 (by decide) 512 384 rfl (by decide) _ slices_S256x512_o0_384_S256x128 x
  · exact chunk_apply arg3 arg4 arg5 arg6 x0 x1 x2 x3 6 (by decide) 512 256 rfl (by decide) _ slices_S256x512_o0_256_S256x128 x
  · exact chunk_apply arg3 arg4 arg5 arg6 x0 x1 x2 x3 5 (by decide) 512 128 rfl (by decide) _ slices_S256x512_o0_128_S256x128 x
  · exact chunk_apply arg3 arg4 arg5 arg6 x0 x1 x2 x3 4 (by decide) 512 0 rfl (by decide) _ slices_S256x512_o0_0_S256x128 x
  · exact chunk_apply arg3 arg4 arg5 arg6 x0 x1 x2 x3 3 (by decide) 0 384 rfl (by decide) _ slices_S256x512_o0_384_S256x128 x
  · exact chunk_apply arg3 arg4 arg5 arg6 x0 x1 x2 x3 2 (by decide) 0 256 rfl (by decide) _ slices_S256x512_o0_256_S256x128 x
  · exact chunk_apply arg3 arg4 arg5 arg6 x0 x1 x2 x3 1 (by decide) 0 128 rfl (by decide) _ slices_S256x512_o0_128_S256x128 x
  · exact chunk_apply arg3 arg4 arg5 arg6 x0 x1 x2 x3 0 (by decide) 0 0 rfl (by decide) _ slices_S256x512_o0_0_S256x128 x

end Cert.Kernel2Ideal.Exp

end
-- ==== Proof.ExpPre.lean ====
/-
  What the experts' precondition says of the two tables, the blocks they then name, and the tables as admissible contents.
-/
module

public import proofs.«01_k».proof.Proof.ExpFrame
public import proofs.«01_k».proof.Pre_in_range
public import proofs.«01_k».proof.Proof.Gen.Pre_in_range

@[expose] public section

set_option maxRecDepth 16384
set_option Elab.async false

noncomputable section

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The predicate holding says each block's expert is one of the 16 and the count of used blocks is positive. -/
theorem in_range_words (a0 : FVec F S419840x128 .f32) (a1 : IVec S82 32) (a2 : IVec S1 32) (a3 a4 : FVec F S16x2048x1408 .bf16) (a5 : FVec F S16x1408x2048 .bf16)
    (h : (Cert.Pre_in_range.fn (F := F) a0 a1 a2 a3 a4 a5).1 = (fun _ => 1#1) ∧ (Cert.Pre_in_range.fn (F := F) a0 a1 a2 a3 a4 a5).2.1 = (fun _ => 1#1)
      ∧ (Cert.Pre_in_range.fn (F := F) a0 a1 a2 a3 a4 a5).2.2 = (fun _ => 1#1)) :
    (∀ i, (a1 i).toNat < 16) ∧ ∀ i, 1 ≤ (a2 i).toInt := by
  obtain ⟨h0, h1, h2⟩ := h
  have bit : ∀ b : Bool, BitVec.ofBool b = 1#1 → b = true := by decide
  refine ⟨fun i => ?_, fun i => ?_⟩
  · have e0 : BitVec.ofBool ((0#32 : BitVec 32).sle (a1 i)) = 1#1 := congrFun h0 i
    have e1 : BitVec.ofBool ((a1 i).slt (16#32 : BitVec 32)) = 1#1 := congrFun h1 i
    have l0 := BitVec.sle_iff_toInt_le.mp (bit _ e0)
    have l1 := BitVec.slt_iff_toInt_lt.mp (bit _ e1)
    rw [show (0#32 : BitVec 32).toInt = 0 from by decide] at l0
    rw [show (16#32 : BitVec 32).toInt = 16 from by decide] at l1
    have := BitVec.toInt_eq_toNat_cond (a1 i)
    have := (a1 i).isLt
    split at * <;> omega
  · have e0 : BitVec.ofBool ((1#32 : BitVec 32).sle (a2 i)) = 1#1 := congrFun h2 i
    have l0 := BitVec.sle_iff_toInt_le.mp (bit _ e0)
    rwa [show (1#32 : BitVec 32).toInt = 1 from by decide] at l0

/-- The index of block `b` in the table of experts, and the one index of the count. -/
abbrev at82 (b : ℕ) (h : b < 82) : S82.Idx := fun | ⟨0, _⟩ => ⟨b, h⟩
abbrev at1 : S1.Idx := fun | ⟨0, _⟩ => ⟨0, Nat.one_pos⟩

theorem first_val (h : 0 < (⟨1, S1.size⟩ : Shape).numel) (a : Fin 1) : ((Shape.Idx.first h : S1.Idx) a : ℕ) = 0 := by
  have := (Shape.Idx.first h a).isLt
  match a with
  | ⟨0, _⟩ => exact Nat.lt_one_iff.mp this

/-- The word the body reads is the count. -/
theorem word_eq (T1 : S1.Idx → Elt F .i32) : word T1 = T1 at1 :=
  congrArg T1 (funext fun a => match a with | ⟨0, _⟩ => Fin.ext (Nat.lt_one_iff.mp (Fin.isLt _)))

variable (pf : pre0.Contents (Elt F))

/-- The count of used blocks, and the expert of block `b`, as words. -/
abbrev nuW : BitVec 32 := (pf 1 : S1.Idx → BitVec 32) at1
abbrev beW (i : grid0.Coords) : BitVec 32 := (pf 0 : S82.Idx → BitVec 32) (at82 (i 0).val (i 0).isLt)

theorem toNat_coord (i : grid0.Coords) : (BitVec.ofNat 32 (i 0).val).toNat = (i 0).val := by
  have : (i 0).val < 82 := (i 0).isLt
  rw [BitVec.toNat_ofNat]; omega

theorem read_nu : pf.at 1 (Rect.unit (s := S1) ![0] S1.size inb_S1_S1_0) numel1_S1 = nuW pf :=
  congrArg (pf 1) (funext fun a => match a with | ⟨0, _⟩ => Fin.ext (Nat.lt_one_iff.mp (Fin.isLt _)))

theorem read_be (i : grid0.Coords) : pf.at 0 (Rect.unit (s := S82) ![(Scalar.indexCast (BitVec.ofNat 32 (i 0).val) : Index).toNat] S1.size (k0_off1_inb i)) numel1_S1 = beW pf i :=
  congrArg (pf 0) (funext fun a => match a with
    | ⟨0, _⟩ => Fin.ext (by
      have h1 : ((Shape.Idx.first (numel1_S1.symm ▸ Nat.one_pos) : S1.Idx) 0 : ℕ) = 0 := Nat.lt_one_iff.mp (Fin.isLt _)
      show (BitVec.ofNat 32 (i 0).val).toNat + 1 * ((Shape.Idx.first (numel1_S1.symm ▸ Nat.one_pos) : S1.Idx) 0 : ℕ) = (i 0).val
      rw [toNat_coord, h1]; omega))

theorem index1 (i : grid0.Coords) : cc0_transform_1 k0_off1_inb numel1_S1 pf i = ![(beW pf i).toNat, 0, 0] := by
  unfold cc0_transform_1; dsimp only; rw [read_be]; rfl
theorem index2 (i : grid0.Coords) : cc0_transform_2 k0_off1_inb numel1_S1 pf i = ![(beW pf i).toNat, 0, 0] := by
  unfold cc0_transform_2; dsimp only; rw [read_be]; rfl
theorem index3 (i : grid0.Coords) : cc0_transform_3 k0_off1_inb numel1_S1 pf i = ![(beW pf i).toNat, 0, 0] := by
  unfold cc0_transform_3; dsimp only; rw [read_be]; rfl

/-- The block of rows fetched: the point's own, or the last used one's past it. -/
theorem index0 (h : 1 ≤ (nuW pf).toInt) (i : grid0.Coords) :
    cc0_transform_0 inb_S1_S1_0 numel1_S1 pf i = ![min (i 0).val ((nuW pf).toNat - 1), 0] := by
  have hi : (i 0).val < 82 := (i 0).isLt
  have hc := BitVec.toInt_eq_toNat_cond (nuW pf)
  have hl := (nuW pf).isLt
  have hs : (nuW pf - 1#32).toNat = (nuW pf).toNat - 1 := by
    rw [BitVec.toNat_sub_of_le (by rw [BitVec.le_def]; show 1 ≤ _; split at hc <;> omega)]; rfl
  unfold cc0_transform_0; dsimp only; rw [read_nu]
  show ![(IntOp.minsi (BitVec.ofNat 32 (i 0).val) (nuW pf - 1#32)).toNat, 0] = _
  rw [WordArith.toNat_minsi_of_lt _ _ (by rw [toNat_coord]; omega) (by rw [hs]; split at hc <;> omega), toNat_coord, hs]

/-- Tables in range admit the pipeline: every block lies inside its array. -/
theorem ok_tables (hE : ∀ i, ((pf 0 : S82.Idx → BitVec 32) i).toNat < 16) (hN : 1 ≤ (nuW pf).toInt) : ok0 pf := by
  refine ⟨fun i => ⟨?_, .inl rfl⟩, fun i => ⟨?_, .inr (Affine.block_words_dvd (s := S16x2048x1408) (p := EltTy.packing .bf16) (by decide) (by decide))⟩,
    fun i => ⟨?_, .inr (Affine.block_words_dvd (s := S16x2048x1408) (p := EltTy.packing .bf16) (by decide) (by decide))⟩,
    fun i => ⟨?_, .inr (Affine.block_words_dvd (s := S16x1408x2048) (p := EltTy.packing .bf16) (by decide) (by decide))⟩⟩
  · intro a; rw [index0 pf hN i]
    have hi : (i 0).val < 82 := (i 0).isLt
    match a with
    | ⟨0, _⟩ => show (min (i 0).val ((nuW pf).toNat - 1) + 1) * 5120 ≤ 419840; omega
    | ⟨1, _⟩ => show (0 + 1) * 128 ≤ 128; omega
  · intro a; rw [index1 pf i]
    have : (beW pf i).toNat < 16 := hE (at82 (i 0).val (i 0).isLt)
    match a with
    | ⟨0, _⟩ => show ((beW pf i).toNat + 1) * 1 ≤ 16; omega
    | ⟨1, _⟩ => show (0 + 1) * 2048 ≤ 2048; omega
    | ⟨2, _⟩ => show (0 + 1) * 1408 ≤ 1408; omega
  · intro a; rw [index2 pf i]
    have : (beW pf i).toNat < 16 := hE (at82 (i 0).val (i 0).isLt)
    match a with
    | ⟨0, _⟩ => show ((beW pf i).toNat + 1) * 1 ≤ 16; omega
    | ⟨1, _⟩ => show (0 + 1) * 2048 ≤ 2048; omega
    | ⟨2, _⟩ => show (0 + 1) * 1408 ≤ 1408; omega
  · intro a; rw [index3 pf i]
    have : (beW pf i).toNat < 16 := hE (at82 (i 0).val (i 0).isLt)
    match a with
    | ⟨0, _⟩ => show ((beW pf i).toNat + 1) * 1 ≤ 16; omega
    | ⟨1, _⟩ => show (0 + 1) * 1408 ≤ 1408; omega
    | ⟨2, _⟩ => show (0 + 1) * 2048 ≤ 2048; omega

/-- The tables a launch memory holds. -/
def tables (m : (ℓ : Loc nD τ sig) → Buf (Elt F) ℓ) : pre0.Contents (Elt F) := fun j => m (((0 : Dev nD) : Thread nD τ).loc (pre0.ref j))

/-- The launch memory's tables are in range. -/
def InRange (m : (ℓ : Loc nD τ sig) → Buf (Elt F) ℓ) : Prop :=
  (∀ i, ((tables m 0 : S82.Idx → BitVec 32) i).toNat < 16) ∧ 1 ≤ (nuW (tables m)).toInt

abbrev admOf (m : (ℓ : Loc nD τ sig) → Buf (Elt F) ℓ) (h : InRange m) : (pcfg0 (F := F)).Adm := ⟨tables m, ok_tables _ h.1 h.2⟩

theorem tables_of (m : (ℓ : Loc nD τ sig) → Buf (Elt F) ℓ) (h : InRange m) : Tables (admOf m h) m := fun c j => by
  rw [show c = 0 from Subsingleton.elim _ _]; rfl

/-- Where the precondition holds of a launch memory its tables are in range. -/
theorem inRange_of (m : (ℓ : Loc nD τ sig) → Buf (Elt F) ℓ)
    (h : ∀ c : Dev nD,
      (Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
      ∧ (Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2.1 = (fun _ => 1#1)
      ∧ (Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2.2 = (fun _ => 1#1)) :
    InRange m :=
  have w := in_range_words _ _ _ _ _ _ (h 0)
  ⟨w.1, w.2 at1⟩

end Cert.Kernel2Ideal.Exp

end
-- ==== Proof.ExpLaunch.lean ====
/-
  The experts' launch at the ideal values: the array of results read at an index, from the argument arrays.
-/
module

public import proofs.«01_k».proof.Proof.ExpValue
public import proofs.«01_k».proof.Proof.ExpPre
public import Idealize.ShloMosaic.Lib.Pipeline.ValueKit.Geometry

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.ValueIdx
open Idealize.SL.Sem
open Idealize.ShloMosaic.Pipeline (Dat)

/-! ## The experts' result, from the argument arrays -/

/-- Block `t` of an array of slabs. -/
def blockOf (X : S419840x128.Idx → EReal) (t : Fin 82) : S5120x128.Idx → EReal := fun y =>
  X (ix2 ⟨5120 * t.val + (y 0).val, by have : (y 0).val < 5120 := (y 0).isLt; omega⟩ (y 1))

/-- Expert `e`'s matrix of a stack of sixteen. -/
def matOf {a b : ℕ} (W : (⟨3, ![16, a, b]⟩ : Shape).Idx → EReal) (e : Fin 16) : (⟨3, ![1, a, b]⟩ : Shape).Idx → EReal := fun y =>
  W (ix3 e (y 1) (y 2))

/-- The expert that a word names. -/
def expert (v : BitVec 32) : Fin 16 := ⟨min v.toNat 15, by omega⟩

/-- The result at row `q` and lane `l`: the expert's of its block if that is used, else zero. -/
def experts (X : S419840x128.Idx → EReal) (be : S82.Idx → BitVec 32) (nu : S1.Idx → BitVec 32) (wg wu : S16x2048x1408.Idx → EReal) (wd : S16x1408x2048.Idx → EReal)
    (q : Fin 419840) (l : Fin 128) : EReal :=
  if (BitVec.ofNat 32 (q.val / 5120)).toInt < (nu at1).toInt then
    slabs (blockOf X ⟨q.val / 5120, by omega⟩) (matOf wg (expert (be (at82 (q.val / 5120) (by omega))))) (matOf wu (expert (be (at82 (q.val / 5120) (by omega)))))
      (matOf wd (expert (be (at82 (q.val / 5120) (by omega))))) ⟨q.val % 5120, by omega⟩ l
  else 0

/-! ## The blocks fetched -/

variable (A : (pcfg0 (F := Ideal)).Adm) (m : (ℓ : Loc nD τ sig) → Buf (Elt Ideal) ℓ)

theorem count : (cfgA A).N = 82 := by
  show grid0.N = 82; decide

theorem lt82 (t : Fin (cfgA A).N) : t.val < 82 := Nat.lt_of_lt_of_eq t.isLt (count A)

theorem crd_val : ∀ t : Fin grid0.N, (grid0.coords t 0).val = t.val := by decide +kernel

/-- An index inside a fetched block, in the array. -/
theorem emb_coord {G : Pipeline.Grid} (w : Pipeline.Window sig G) (t : Fin G.N) (y : (w.xblock (G.coords t)).Idx) (a : Fin w.shape.rank) (hk : w.kind = .blocked) (n s v : ℕ)
    (hn : w.index t a = n) (hs : w.size a = s) (hv : n * s + (y a : ℕ) = v) : ((w.rect t).emb y a : ℕ) = v := by
  rw [w.rect_emb_val t y a hk, hn, hs, hv]

theorem rows_fetched (c : Dev nD) (t : Fin (cfgA A).N) (hN : 1 ≤ (nuW A.1).toInt) (hu : ¬unused A t) :
    iblk A m c (0 : Fin 5) t = blockOf (m ((c : Thread nD τ).loc main_arg0)) ⟨t.val, lt82 A t⟩ := by
  have hi := index0 A.1 hN (crd A t)
  have hc : ((crd A t) 0).val = t.val := crd_val t
  have ht : t.val < 82 := lt82 A t
  have hlt : t.val < (nuW A.1).toNat := by
    rw [unused, cond1_iff, word_eq, hc] at hu
    have e := BitVec.toInt_eq_toNat_cond (nuW A.1)
    have hl := (nuW A.1).isLt
    have e' := BitVec.toInt_eq_toNat_cond (BitVec.ofNat 32 t.val)
    rw [BitVec.toNat_ofNat] at e'
    have hu' : ¬(nuW A.1).toInt ≤ (BitVec.ofNat 32 t.val).toInt := hu
    split at e <;> split at e' <;> omega
  funext y
  have e0 : ((((cfgA A).win (0 : Fin 5)).rect t).emb y (0 : Fin 2) : ℕ) = 5120 * t.val + (y (0 : Fin 2)).val :=
    emb_coord ((cfgA A).win (0 : Fin 5)) t y (0 : Fin 2) rfl t.val 5120 _ ((congrFun hi 0).trans (show min ((crd A t) 0).val ((nuW A.1).toNat - 1) = t.val by omega)) rfl (by omega)
  have e1 : ((((cfgA A).win (0 : Fin 5)).rect t).emb y (1 : Fin 2) : ℕ) = (y (1 : Fin 2)).val :=
    emb_coord ((cfgA A).win (0 : Fin 5)) t y (1 : Fin 2) rfl 0 128 _ (congrFun hi 1) rfl (by omega)
  show m ((c : Thread nD τ).loc main_arg0) ((((cfgA A).win (0 : Fin 5)).rect t).emb y) = _
  refine congrArg (m ((c : Thread nD τ).loc main_arg0)) (funext fun a => Fin.ext ?_)
  match a with
  | ⟨0, _⟩ => exact e0
  | ⟨1, _⟩ => exact e1

theorem expert_val (i : grid0.Coords) (h : (beW A.1 i).toNat < 16) : (beW A.1 i).toNat = (expert (beW A.1 i)).val := by
  show _ = min _ 15; omega

theorem gate_fetched (c : Dev nD) (t : Fin (cfgA A).N) (h : (beW A.1 (crd A t)).toNat < 16) :
    iblk A m c (1 : Fin 5) t = matOf (m ((c : Thread nD τ).loc main_arg3)) (expert (beW A.1 (crd A t))) := by
  have hi := index1 A.1 (crd A t)
  rw [expert_val A _ h] at hi
  funext y
  have hy : (y (0 : Fin 3)).val < 1 := (y (0 : Fin 3)).isLt
  have e0 : ((((cfgA A).win (1 : Fin 5)).rect t).emb y (0 : Fin 3) : ℕ) = (expert (beW A.1 (crd A t))).val :=
    emb_coord ((cfgA A).win (1 : Fin 5)) t y (0 : Fin 3) rfl (expert (beW A.1 (crd A t))).val 1 _ (congrFun hi 0) rfl (by omega)
  have e1 : ((((cfgA A).win (1 : Fin 5)).rect t).emb y (1 : Fin 3) : ℕ) = (y (1 : Fin 3)).val :=
    emb_coord ((cfgA A).win (1 : Fin 5)) t y (1 : Fin 3) rfl 0 2048 _ (congrFun hi 1) rfl (by omega)
  have e2 : ((((cfgA A).win (1 : Fin 5)).rect t).emb y (2 : Fin 3) : ℕ) = (y (2 : Fin 3)).val :=
    emb_coord ((cfgA A).win (1 : Fin 5)) t y (2 : Fin 3) rfl 0 1408 _ (congrFun hi 2) rfl (by omega)
  show m ((c : Thread nD τ).loc main_arg3) ((((cfgA A).win (1 : Fin 5)).rect t).emb y) = _
  refine congrArg (m ((c : Thread nD τ).loc main_arg3)) (funext fun a => Fin.ext ?_)
  match a with
  | ⟨0, _⟩ => exact e0
  | ⟨1, _⟩ => exact e1
  | ⟨2, _⟩ => exact e2

theorem up_fetched (c : Dev nD) (t : Fin (cfgA A).N) (h : (beW A.1 (crd A t)).toNat < 16) :
    iblk A m c (2 : Fin 5) t = matOf (m ((c : Thread nD τ).loc main_arg4)) (expert (beW A.1 (crd A t))) := by
  have hi := index2 A.1 (crd A t)
  rw [expert_val A _ h] at hi
  funext y
  have hy : (y (0 : Fin 3)).val < 1 := (y (0 : Fin 3)).isLt
  have e0 : ((((cfgA A).win (2 : Fin 5)).rect t).emb y (0 : Fin 3) : ℕ) = (expert (beW A.1 (crd A t))).val :=
    emb_coord ((cfgA A).win (2 : Fin 5)) t y (0 : Fin 3) rfl (expert (beW A.1 (crd A t))).val 1 _ (congrFun hi 0) rfl (by omega)
  have e1 : ((((cfgA A).win (2 : Fin 5)).rect t).emb y (1 : Fin 3) : ℕ) = (y (1 : Fin 3)).val :=
    emb_coord ((cfgA A).win (2 : Fin 5)) t y (1 : Fin 3) rfl 0 2048 _ (congrFun hi 1) rfl (by omega)
  have e2 : ((((cfgA A).win (2 : Fin 5)).rect t).emb y (2 : Fin 3) : ℕ) = (y (2 : Fin 3)).val :=
    emb_coord ((cfgA A).win (2 : Fin 5)) t y (2 : Fin 3) rfl 0 1408 _ (congrFun hi 2) rfl (by omega)
  show m ((c : Thread nD τ).loc main_arg4) ((((cfgA A).win (2 : Fin 5)).rect t).emb y) = _
  refine congrArg (m ((c : Thread nD τ).loc main_arg4)) (funext fun a => Fin.ext ?_)
  match a with
  | ⟨0, _⟩ => exact e0
  | ⟨1, _⟩ => exact e1
  | ⟨2, _⟩ => exact e2

theorem down_fetched (c : Dev nD) (t : Fin (cfgA A).N) (h : (beW A.1 (crd A t)).toNat < 16) :
    iblk A m c (3 : Fin 5) t = matOf (m ((c : Thread nD τ).loc main_arg5)) (expert (beW A.1 (crd A t))) := by
  have hi := index3 A.1 (crd A t)
  rw [expert_val A _ h] at hi
  funext y
  have hy : (y (0 : Fin 3)).val < 1 := (y (0 : Fin 3)).isLt
  have e0 : ((((cfgA A).win (3 : Fin 5)).rect t).emb y (0 : Fin 3) : ℕ) = (expert (beW A.1 (crd A t))).val :=
    emb_coord ((cfgA A).win (3 : Fin 5)) t y (0 : Fin 3) rfl (expert (beW A.1 (crd A t))).val 1 _ (congrFun hi 0) rfl (by omega)
  have e1 : ((((cfgA A).win (3 : Fin 5)).rect t).emb y (1 : Fin 3) : ℕ) = (y (1 : Fin 3)).val :=
    emb_coord ((cfgA A).win (3 : Fin 5)) t y (1 : Fin 3) rfl 0 1408 _ (congrFun hi 1) rfl (by omega)
  have e2 : ((((cfgA A).win (3 : Fin 5)).rect t).emb y (2 : Fin 3) : ℕ) = (y (2 : Fin 3)).val :=
    emb_coord ((cfgA A).win (3 : Fin 5)) t y (2 : Fin 3) rfl 0 2048 _ (congrFun hi 2) rfl (by omega)
  show m ((c : Thread nD τ).loc main_arg5) ((((cfgA A).win (3 : Fin 5)).rect t).emb y) = _
  refine congrArg (m ((c : Thread nD τ).loc main_arg5)) (funext fun a => Fin.ext ?_)
  match a with
  | ⟨0, _⟩ => exact e0
  | ⟨1, _⟩ => exact e1
  | ⟨2, _⟩ => exact e2

/-! ## What each point leaves, and the array -/

/-- The result as an array, from the launch memory and the tables. -/
def G4 (c : Dev nD) : S419840x128.Idx → EReal := fun j =>
  experts (m ((c : Thread nD τ).loc main_arg0)) (tabE A) (tabN A) (m ((c : Thread nD τ).loc main_arg3)) (m ((c : Thread nD τ).loc main_arg4)) (m ((c : Thread nD τ).loc main_arg5)) (j 0) (j 1)

theorem left_apply (hE : ∀ i, ((tabE A) i : BitVec 32).toNat < 16) (hN : 1 ≤ (nuW A.1).toInt) (c : Dev nD) (t : Fin (cfgA A).N) (p : Fin 5120) (l : Fin 128) (q : Fin 419840) (hq : q.val = 5120 * t.val + p.val) :
    left A m c t (ix2 p l) = G4 A m c (ix2 q l) := by
  have hc : ((crd A t) 0).val = t.val := crd_val t
  have hd : q.val / 5120 = t.val := by omega
  have hm : q.val % 5120 = p.val := by omega
  have hl : (word (tabN A)) = (tabN A : S1.Idx → BitVec 32) at1 := word_eq _
  unfold left G4 experts
  by_cases h : unused A t
  · rw [dif_pos h, if_neg]
    · exact Ideal.ofBits_zero_f32
    · rw [unused, cond1_iff, hl, hc] at h
      show ¬(BitVec.ofNat 32 (q.val / 5120)).toInt < _
      rw [hd]; omega
  · rw [dif_neg h, if_pos]
    · rw [used_apply, rows_fetched A m c t hN h, gate_fetched A m c t (hE _), up_fetched A m c t (hE _), down_fetched A m c t (hE _)]
      have e1 : (⟨t.val, lt82 A t⟩ : Fin 82) = ⟨((ix2 q l : S419840x128.Idx) 0).val / 5120, by show q.val / 5120 < 82; omega⟩ := Fin.ext hd.symm
      have e2 : beW A.1 (crd A t) = (tabE A) (at82 (((ix2 q l : S419840x128.Idx) 0).val / 5120) (by show q.val / 5120 < 82; omega)) :=
        congrArg (tabE A) (funext fun a => match a with | ⟨0, _⟩ => Fin.ext (hc.trans hd.symm))
      have e3 : p = ⟨((ix2 q l : S419840x128.Idx) 0).val % 5120, by show q.val % 5120 < 5120; omega⟩ := Fin.ext hm.symm
      rw [e1, e2]; exact congrArg (fun p => slabs _ _ _ _ p l) e3
    · rw [unused, cond1_iff, hl, hc] at h
      show (BitVec.ofNat 32 (q.val / 5120)).toInt < _
      rw [hd]; omega

theorem index4 (t : Fin (cfgA A).N) : ((cfgA A).win (4 : Fin 5)).index t = ![t.val, 0] := by
  have hc : ((crd A t) 0).val = t.val := crd_val t
  refine (show _ = ![(BitVec.ofNat 32 ((crd A t) 0).val).toNat, 0] from rfl).trans ?_
  rw [toNat_coord, hc]

theorem array_eq (hE : ∀ i, ((tabE A) i : BitVec 32).toNat < 16) (hN : 1 ≤ (nuW A.1).toInt) (c : Dev nD) :
    (dats A m 0 c).arrAt (4 : Fin 5) (cfgA A).N = G4 A m c := by
  refine (dats A m 0 c).arrAt_eq_of_cover (4 : Fin 5) (G4 A m c) (fun t _ => ?_) fun i => ?_
  · funext y
    have hp : (y 0).val < 5120 := (y 0).isLt
    have hl : (y 1).val < 128 := (y 1).isLt
    have ht : t.val < 82 := lt82 A t
    have e0 : ((((cfgA A).win (4 : Fin 5)).rect t).emb y (0 : Fin 2) : ℕ) = 5120 * t.val + (y 0).val :=
      emb_coord ((cfgA A).win (4 : Fin 5)) t y (0 : Fin 2) rfl t.val 5120 _ (congrFun (index4 A t) 0) rfl (by omega)
    have e1 : ((((cfgA A).win (4 : Fin 5)).rect t).emb y (1 : Fin 2) : ℕ) = (y 1).val :=
      emb_coord ((cfgA A).win (4 : Fin 5)) t y (1 : Fin 2) rfl 0 128 _ (congrFun (index4 A t) 1) rfl (by omega)
    have hx : ((cfgA A).win (4 : Fin 5)).xinj (crd A t) y = ix2 (⟨(y 0).val, hp⟩ : Fin 5120) (⟨(y 1).val, hl⟩ : Fin 128) := funext fun a => match a with
      | ⟨0, _⟩ => rfl
      | ⟨1, _⟩ => rfl
    refine (congrArg (left A m c t) hx).trans ((left_apply A m hE hN c t _ _ ⟨5120 * t.val + (y 0).val, by omega⟩ rfl).trans ?_)
    refine congrArg (G4 A m c) (funext fun a => Fin.ext ?_)
    match a with
    | ⟨0, _⟩ => exact e0.symm
    | ⟨1, _⟩ => exact e1.symm
  · have h0 : (i 0).val < 419840 := (i 0).isLt
    have h1 : (i 1).val < 128 := (i 1).isLt
    have ht : (i 0).val / 5120 < (cfgA A).N := by rw [count A]; omega
    refine ⟨⟨(i 0).val / 5120, ht⟩, flush4 A _, ?_⟩
    show i ∈ ((View.whole main_v0).slice (((cfgA A).win (4 : Fin 5)).rect ⟨(i 0).val / 5120, ht⟩)).set
    rw [View.set_slice_whole, Rect.mem_set_unit]
    have hs := index4 A ⟨(i 0).val / 5120, ht⟩
    intro a
    match a with
    | ⟨0, _⟩ =>
      show ((cfgA A).win (4 : Fin 5)).index _ (0 : Fin 2) * 5120 ≤ (i 0 : ℕ) ∧ (i 0 : ℕ) < ((cfgA A).win (4 : Fin 5)).index _ (0 : Fin 2) * 5120 + 5120
      rw [hs]; show (i 0 : ℕ) / 5120 * 5120 ≤ (i 0 : ℕ) ∧ (i 0 : ℕ) < (i 0 : ℕ) / 5120 * 5120 + 5120; omega
    | ⟨1, _⟩ =>
      show ((cfgA A).win (4 : Fin 5)).index _ (1 : Fin 2) * 128 ≤ (i 1 : ℕ) ∧ (i 1 : ℕ) < ((cfgA A).win (4 : Fin 5)).index _ (1 : Fin 2) * 128 + 128
      rw [hs]; show 0 * 128 ≤ (i 1 : ℕ) ∧ (i 1 : ℕ) < 0 * 128 + 128; omega

end Cert.Kernel2Ideal.Exp

end
-- ==== Proof.ExpRef.lean ====
/-
  The experts' reference at an index: the result it ends with is the experts' at every row and lane, its arguments as they
  were and its counters at zero.
-/
module

public import proofs.«01_k».proof.Proof.ExpLaunch
public import proofs.«01_k».proof.Proof.Gen.Reference2Ideal.Run
public import Idealize.ShloMosaic.Lib.StackMember
public import Idealize.ShloMosaic.Lib.IdealHost

@[expose] public section

set_option maxRecDepth 16384

noncomputable section

namespace Cert.Reference2Ideal.Ref

open Cert.Reference2Ideal Cert.Reference2Ideal.Gen Idealize.ShloMosaic Idealize.ShloMosaic.TcCoe Idealize.ShloMosaic.ValueIdx Idealize.SL.Sem
open Idealize.ShloMosaic.StableHlo
open Cert.Kernel2Ideal.Exp (at82 at1 blockOf matOf expert experts entry proj hid res slabs)

/-! ## A matrix per block, picked out of a stack -/

/-- The matrix at `(g, i, j)` that row `g` of the words picks, its word read signed and kept inside the stack. -/
theorem pick_apply {N G a b : ℕ} (hN : 0 < N)
    (wf : GatherDims.WF ⟨3, ![N, a, b]⟩ ⟨2, ![G, 1]⟩ ⟨3, ![G, a, b]⟩ [1, 2] [0] [] [0] [] 1 ![1, a, b])
    (W : (⟨3, ![N, a, b]⟩ : Shape).Idx → EReal) (idx : IVec ⟨2, ![G, 1]⟩ 32) (g : Fin G) (i : Fin a) (j : Fin b) :
    Host.gather (⟨[1, 2], [0], [], [], [0], 1, ![1, a, b], wf⟩ : GatherDims ⟨3, ![N, a, b]⟩ ⟨2, ![G, 1]⟩ ⟨3, ![G, a, b]⟩) W idx (ix3 g i j)
      = W (ix3 ⟨min (idx (ix2 g 0)).toInt.toNat (N - 1), by omega⟩ i j) := by
  unfold Host.gather
  refine congrArg W (funext fun x => Fin.ext ?_)
  match x with
  | ⟨0, _⟩ =>
    refine (Nat.add_zero _).trans ((Nat.add_zero _).trans (congrArg (fun z => min (idx z).toInt.toNat (N - 1)) (funext fun y => Fin.ext ?_)))
    match y with
    | ⟨0, _⟩ => rfl
    | ⟨1, _⟩ => rfl
  | ⟨1, _⟩ => exact (Nat.zero_add _).trans rfl
  | ⟨2, _⟩ => exact (Nat.zero_add _).trans rfl

/-! ## The reference's values, named -/

variable (X : S419840x128.Idx → EReal) (be : IVec S82 32) (nu : IVec S1 32) (wg wu : S16x2048x1408.Idx → EReal) (wd : S16x1408x2048.Idx → EReal)

/-- The blocks of rows. -/
def rows : FVec Ideal S82x256x2048 .f32 :=
  shapeCast S82x256x2048 (extractStridedSlice S20992x16x128 ![0, 0, 0] (shapeCast S20992x20x128 X shapeCasts_S419840x128_S20992x20x128)
    slices_S20992x20x128_S20992x16x128_0_0_0) shapeCasts_S20992x16x128_S82x256x2048

/-- Each block's matrix into the inner width, and its matrix out of it. -/
def into (W : S16x2048x1408.Idx → EReal) : FVec Ideal S82x2048x1408 .f32 :=
  Host.gather gather_S16x2048x1408_S82x1_S82x2048x1408_12_0_n_n_0_1_120481408 W (broadcastInDim S82x1 ![0] bcast_S82_S82x1_0 be)
def outOf : FVec Ideal S82x1408x2048 .f32 :=
  Host.gather gather_S16x1408x2048_S82x1_S82x1408x2048_12_0_n_n_0_1_114082048 wd (broadcastInDim S82x1 ![0] bcast_S82_S82x1_0 be)

/-- The rows times a matrix. -/
def wide (W : S16x2048x1408.Idx → EReal) : FVec Ideal S82x256x1408 .f32 :=
  Host.dotGeneral dot_S82x256x2048_S82x2048x1408_S82x256x1408_2_1_1_2_0_0 none (rows X) (into be W)

/-- The inner values. -/
def inner : FVec Ideal S82x256x1408 .f32 :=
  mulf (mulf (wide X be wg) (Host.divf (broadcastInDim S82x256x1408 ![] bcast_S_S82x256x1408 (constant S_ .f32 0x3F800000#32))
    (addf (broadcastInDim S82x256x1408 ![] bcast_S_S82x256x1408 (constant S_ .f32 0x3F800000#32)) (Host.exp (Host.negf (wide X be wg)))))) (wide X be wu)

/-- The blocks' results, zero past the used ones. -/
def kept : FVec Ideal S82x256x2048 .f32 :=
  select (broadcastInDim S82x256x2048 ![0, 1, 2] bcast_S82x1x1_S82x256x2048_0_1_2 (broadcastInDim S82x1x1 ![0] bcast_S82_S82x1x1_0
      (cmpi .slt (iotaInDim S82 32 0) (broadcastInDim S82 ![0] bcast_S1_S82_0 nu))))
    (Host.dotGeneral dot_S82x256x1408_S82x1408x2048_S82x256x2048_2_1_1_2_0_0 none (inner X be wg wu) (outOf be wd))
    (broadcastInDim S82x256x2048 ![] bcast_S_S82x256x2048 (constant S_ .f32 0x00000000#32))

/-- The result: the rows in slabs again. -/
def out : FVec Ideal S419840x128 .f32 :=
  shapeCast S419840x128 (Value.fn_main_v21 (F := Ideal) (shapeCast S20992x16x128 (kept X be nu wg wu wd) shapeCasts_S82x256x2048_S20992x16x128)
    (broadcastInDim S20992x4x128 ![] bcast_S_S20992x4x128 (constant (F := Ideal) S_ .f32 0x00000000#32))) shapeCasts_S20992x20x128_S419840x128

/-! ## Read at an index -/

theorem rows_apply (t : Fin 82) (r : Fin 256) (d : Fin 2048) : rows X (ix3 t r d) = entry (blockOf X t) r d := by
  unfold rows
  refine (shapeCast_apply _ _ (ix3 t r d) (ix3 (⟨256 * t.val + r.val, by omega⟩ : Fin 20992) (⟨d.val / 128, by omega⟩ : Fin 16) (⟨d.val % 128, by omega⟩ : Fin 128)) ?_).trans ?_
  · rw [Shape.rowMajor_val_three, Shape.rowMajor_val_three]
    show ((256 * t.val + r.val) * 16 + d.val / 128) * 128 + d.val % 128 = (t.val * 256 + r.val) * 2048 + d.val
    omega
  refine (extractStridedSlice_apply _ _ _ _ (ix3 (⟨256 * t.val + r.val, by omega⟩ : Fin 20992) (⟨d.val / 128, by omega⟩ : Fin 20) (⟨d.val % 128, by omega⟩ : Fin 128)) ?_).trans ?_
  · intro a
    match a with
    | ⟨0, _⟩ => exact (Nat.zero_add _).symm
    | ⟨1, _⟩ => exact (Nat.zero_add _).symm
    | ⟨2, _⟩ => exact (Nat.zero_add _).symm
  refine shapeCast_apply _ _ _ _ ?_
  rw [Shape.rowMajor_val_three, Shape.rowMajor_val_two]
  show (5120 * t.val + (20 * r.val + d.val / 128)) * 128 + d.val % 128 = ((256 * t.val + r.val) * 20 + d.val / 128) * 128 + d.val % 128
  omega

variable (hE : ∀ i, (be i).toNat < 16)
include hE

theorem expert_of (t : Fin 82) (h : min (broadcastInDim S82x1 ![0] bcast_S82_S82x1_0 be (ix2 t 0)).toInt.toNat (16 - 1) < 16) :
    (⟨min (broadcastInDim S82x1 ![0] bcast_S82_S82x1_0 be (ix2 t 0)).toInt.toNat (16 - 1), h⟩ : Fin 16) = expert (be (at82 t.val t.isLt)) := by
  refine Fin.ext ?_
  have e : broadcastInDim S82x1 ![0] bcast_S82_S82x1_0 be (ix2 t 0) = be (at82 t.val t.isLt) :=
    broadcastInDim_apply _ _ _ _ _ fun a => match a with | ⟨0, _⟩ => rfl
  show min (broadcastInDim S82x1 ![0] bcast_S82_S82x1_0 be (ix2 t 0)).toInt.toNat (16 - 1) = min (be (at82 t.val t.isLt)).toNat 15
  rw [e]
  have := BitVec.toInt_eq_toNat_cond (be (at82 t.val t.isLt))
  have := hE (at82 t.val t.isLt)
  split at * <;> omega

theorem into_apply (W : S16x2048x1408.Idx → EReal) (t : Fin 82) (d : Fin 2048) (f : Fin 1408) :
    into be W (ix3 t d f) = matOf W (expert (be (at82 t.val t.isLt))) (ix3 0 d f) :=
  (pick_apply (by decide) gather_S16x2048x1408_S82x1_S82x2048x1408_12_0_n_n_0_1_120481408.wf W _ t d f).trans
    (congrArg (fun e => W (ix3 e d f)) (expert_of be hE t _))

theorem outOf_apply (t : Fin 82) (f : Fin 1408) (e : Fin 2048) :
    outOf be wd (ix3 t f e) = matOf wd (expert (be (at82 t.val t.isLt))) (ix3 0 f e) :=
  (pick_apply (by decide) gather_S16x1408x2048_S82x1_S82x1408x2048_12_0_n_n_0_1_114082048.wf wd _ t f e).trans
    (congrArg (fun x => wd (ix3 x f e)) (expert_of be hE t _))

theorem wide_apply (W : S16x2048x1408.Idx → EReal) (t : Fin 82) (r : Fin 256) (f : Fin 1408) :
    wide X be W (ix3 t r f) = proj (blockOf X t) (matOf W (expert (be (at82 t.val t.isLt)))) r f := by
  refine (StackMember.dotGeneral_stack_apply dot_S82x256x2048_S82x2048x1408_S82x256x1408_2_1_1_2_0_0.wf none (rows X) (into be W) t r f).trans ?_
  unfold proj
  refine Finset.sum_congr rfl fun d _ => ?_
  rw [rows_apply, into_apply be hE]

theorem inner_apply (t : Fin 82) (r : Fin 256) (f : Fin 1408) :
    inner X be wg wu (ix3 t r f)
      = hid (blockOf X t) (matOf wg (expert (be (at82 t.val t.isLt)))) (matOf wu (expert (be (at82 t.val t.isLt)))) r f := by
  unfold hid
  rw [← wide_apply X be hE, ← wide_apply X be hE]
  show wide X be wg (ix3 t r f) * Ideal.div (Ideal.ofBits .f32 0x3F800000#32) (Ideal.ofBits .f32 0x3F800000#32 + Ideal.exp (-(wide X be wg (ix3 t r f))))
    * wide X be wu (ix3 t r f) = _
  rw [Ideal.ofBits_one_f32]
  rfl

theorem kept_apply (t : Fin 82) (r : Fin 256) (e : Fin 2048) :
    kept X be nu wg wu wd (ix3 t r e)
      = if (BitVec.ofNat 32 t.val).toInt < (nu at1).toInt then
          res (blockOf X t) (matOf wg (expert (be (at82 t.val t.isLt)))) (matOf wu (expert (be (at82 t.val t.isLt)))) (matOf wd (expert (be (at82 t.val t.isLt)))) r e
        else 0 := by
  have hb : broadcastInDim S82x256x2048 ![0, 1, 2] bcast_S82x1x1_S82x256x2048_0_1_2 (broadcastInDim S82x1x1 ![0] bcast_S82_S82x1x1_0
      (cmpi .slt (iotaInDim S82 32 0) (broadcastInDim S82 ![0] bcast_S1_S82_0 nu))) (ix3 t r e) = BitVec.ofBool ((BitVec.ofNat 32 t.val).slt (nu at1)) := by
    refine (broadcastInDim_apply _ _ _ _ (ix3 t (0 : Fin 1) (0 : Fin 1)) fun a => match a with | ⟨0, _⟩ => rfl | ⟨1, _⟩ => rfl | ⟨2, _⟩ => rfl).trans ?_
    refine (broadcastInDim_apply _ _ _ _ (ix1 t) fun a => match a with | ⟨0, _⟩ => rfl).trans ?_
    have hn : broadcastInDim S82 ![0] bcast_S1_S82_0 nu (ix1 t) = nu at1 :=
      broadcastInDim_apply _ _ _ _ _ fun a => match a with | ⟨0, _⟩ => rfl
    show BitVec.ofBool ((BitVec.ofNat 32 t.val).slt (broadcastInDim S82 ![0] bcast_S1_S82_0 nu (ix1 t))) = _
    rw [hn]
  have hd : Host.dotGeneral dot_S82x256x1408_S82x1408x2048_S82x256x2048_2_1_1_2_0_0 none (inner X be wg wu) (outOf be wd) (ix3 t r e)
      = res (blockOf X t) (matOf wg (expert (be (at82 t.val t.isLt)))) (matOf wu (expert (be (at82 t.val t.isLt)))) (matOf wd (expert (be (at82 t.val t.isLt)))) r e := by
    refine (StackMember.dotGeneral_stack_apply dot_S82x256x1408_S82x1408x2048_S82x256x2048_2_1_1_2_0_0.wf none (inner X be wg wu) (outOf be wd) t r e).trans ?_
    unfold res
    refine Finset.sum_congr rfl fun f _ => ?_
    rw [inner_apply X be wg wu hE, outOf_apply be wd hE]
  rw [← hd]
  unfold kept
  show Scalar.select (broadcastInDim S82x256x2048 ![0, 1, 2] bcast_S82x1x1_S82x256x2048_0_1_2 (broadcastInDim S82x1x1 ![0] bcast_S82_S82x1x1_0
      (cmpi .slt (iotaInDim S82 32 0) (broadcastInDim S82 ![0] bcast_S1_S82_0 nu))) (ix3 t r e)) _ (Ideal.ofBits .f32 0x00000000#32) = _
  rw [hb, Ideal.ofBits_zero_f32]
  by_cases h : (BitVec.ofNat 32 t.val).toInt < (nu at1).toInt
  · rw [if_pos h, BitVec.slt_iff_toInt_lt.mpr h]; rfl
  · rw [if_neg h, Bool.eq_false_iff.mpr fun h' => h (BitVec.slt_iff_toInt_lt.mp h')]; rfl

/-- The reference's result is the experts'. -/
theorem out_apply (q : Fin 419840) (l : Fin 128) : out X be nu wg wu wd (ix2 q l) = experts X be nu wg wu wd q l := by
  unfold out
  refine (shapeCast_apply _ _ (ix2 q l) (ix3 (⟨q.val / 20, by omega⟩ : Fin 20992) (⟨q.val % 20, by omega⟩ : Fin 20) l) ?_).trans ?_
  · rw [Shape.rowMajor_val_three, Shape.rowMajor_val_two]
    show (q.val / 20 * 20 + q.val % 20) * 128 + l.val = q.val * 128 + l.val
    omega
  unfold Value.fn_main_v21 experts slabs
  by_cases h : q.val % 20 < 16
  · refine (concatenate_pair_apply_left (t := S20992x20x128) (s₁ := S20992x16x128) (s₂ := S20992x4x128) (1 : Fin 3) _ _ _ _ rfl
      (ix3 (⟨q.val / 20, by omega⟩ : Fin 20992) (⟨q.val % 20, h⟩ : Fin 16) l) fun b => match b with | ⟨0, _⟩ => rfl | ⟨1, _⟩ => rfl | ⟨2, _⟩ => rfl).trans ?_
    refine (shapeCast_apply _ _ _ (ix3 (⟨q.val / 5120, by omega⟩ : Fin 82) (⟨q.val % 5120 / 20, by omega⟩ : Fin 256)
      (⟨128 * (q.val % 5120 % 20) + l.val, by omega⟩ : Fin 2048)) ?_).trans ?_
    · rw [Shape.rowMajor_val_three, Shape.rowMajor_val_three]
      show (q.val / 5120 * 256 + q.val % 5120 / 20) * 2048 + (128 * (q.val % 5120 % 20) + l.val) = (q.val / 20 * 16 + q.val % 20) * 128 + l.val
      omega
    rw [kept_apply X be nu wg wu wd hE, dif_pos (show q.val % 5120 % 20 < 16 by omega)]
  · have ha : q.val % 20 - 16 + 16 = q.val % 20 := by omega
    refine (concatenate_pair_apply_right (t := S20992x20x128) (s₁ := S20992x16x128) (s₂ := S20992x4x128) (1 : Fin 3) _ _ _
      (ix3 (⟨q.val / 20, by omega⟩ : Fin 20992) (⟨q.val % 20, by omega⟩ : Fin 20) l) rfl rfl
      (ix3 (⟨q.val / 20, by omega⟩ : Fin 20992) (⟨q.val % 20 - 16, by omega⟩ : Fin 4) l)
      (fun b => match b with | ⟨0, _⟩ => fun _ => rfl | ⟨1, _⟩ => fun hb => absurd rfl hb | ⟨2, _⟩ => fun _ => rfl)
      ha).trans ?_
    rw [dif_neg (show ¬q.val % 5120 % 20 < 16 by omega), ite_self]
    exact Ideal.ofBits_zero_f32

omit hE

/-! ## The run -/

variable (m : (ℓ : Loc nD τ sig) → Buf (Elt Ideal) ℓ) (ρ : Dev nD → PrngReg)

/-- The reference ends with the experts' rows in its result and its arguments as they were, the blocks' experts being
    among the sixteen. -/
theorem run (hE : ∀ (c : Dev nD) i, (m ((c.tc : Thread nD τ).loc main_arg1) i : BitVec 32).toNat < 16) :
    θ_run defs (onTc (τ := τ) (main (F := Ideal))) ⟨m, fun _ => 0, ρ⟩ fun r => ∀ c : Dev nD,
      r.2.mem ((c.tc : Thread nD τ).loc main_v22) = (fun i : S419840x128.Idx => experts (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1.trans (show _ = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) from rfl)).trans (funext fun i => by
        rw [eq_ix2 (n0 := 419840) (n1 := 128) i]; exact out_apply _ _ _ _ _ _ (hE c) _ _), (h c).2⟩) (Value.run m ρ)

/-- The reference runs, keeps its arguments, and leaves every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.Reference2Ideal.Ref

end
-- ==== Proof.lean ====
/-
  The attention and the experts: each kernel and its reference run and keep their arguments, each kernel read over the
  extended reals is the kernel's own text (but for the mask's constant in the attention), and the results are equal.
-/
module

public import proofs.«01_k».proof.Defs
public import proofs.«01_k».proof.Proof.Gen.Kernel.Frame
public import proofs.«01_k».proof.Proof.Gen.Kernel2
public import proofs.«01_k».proof.Proof.Kern
public import proofs.«01_k».proof.Proof.Finite
public import proofs.«01_k».proof.Proof.RefRun
public import proofs.«01_k».proof.Proof.ExpRef

@[expose] public section

noncomputable section

namespace Cert.Proof

open Idealize.ShloMosaic Idealize.SL.Sem

/-- The mask's constant, read over the extended reals as `-∞`. -/
theorem preserves : Cert.preserves_Kernel_KernelIdeal :=
  IdealRules.named_const.statement Cert.KernelIdeal.κ "mask" .f32 0xF149F2CA#32 ⊥ rfl

/-- Where the queries, the keys and the sinks are real numbers the kernel and the reference end with the same two results. -/
theorem algebraic [Cert.Pre_finite_scores.Facts] : Cert.algebraic_KernelIdeal_ReferenceIdeal_pre_finite_scores := by
  intro m g m' g' hpre hag
  refine ⟨Cert.KernelIdeal.Blk.G17 m, Cert.KernelIdeal.Blk.G18 m, Cert.KernelIdeal.Blk.run m g, ?_⟩
  have h := Cert.ReferenceIdeal.Ref.run m' g'
    (fun c => by rw [(hag c).1]; exact Cert.Pre_finite_scores.Finite.good _ _ _ (hpre c).1 (hpre c).2.1)
    (fun c a => by rw [(hag c).2.1]; exact Cert.Pre_finite_scores.Finite.sink _ _ _ (hpre c).2.2 a)
  refine (θ_run _ _ _).mono (fun r h c => ⟨(h c).1.trans ?_, (h c).2.1.trans ?_, (h c).2.2⟩) h
  · rw [(hag c).1, (hag c).2.1]
    rfl
  · rw [(hag c).2.2]
    rfl

/-- The experts' kernel runs, keeps its arguments, and leaves every counter at zero, over the extended reals and at the words. -/
theorem frame_ideal : Cert.quiescent_Kernel2Ideal := fun m ρ h =>
  Cert.Kernel2Ideal.Exp.frame_experts _ m ρ (Cert.Kernel2Ideal.Exp.tables_of m (Cert.Kernel2Ideal.Exp.inRange_of m h))

/-- The kernel's bodies are the ideal program's: one text. -/
theorem bodies_eq : Cert.Kernel2.defs₀ (F := Bits) = Cert.Kernel2Ideal.defs₀ (F := Bits) := by
  unfold Cert.Kernel2.defs₀ Cert.Kernel2Ideal.defs₀
  refine congrArg (Defs.onTc (nD := 1) (τ := Topo.v7x) (sig := Cert.Kernel2.sig) (Λ := Cert.Kernel2.Λ₀)) (funext fun l => funext fun x => ?_)
  match l, x with
  | ⟨0, _⟩, (_, _) => rfl
theorem defs_eq : Cert.Kernel2.defs (F := Bits) = Cert.Kernel2Ideal.defs (F := Bits) :=
  congrArg (Pipeline.defs (Cert.Kernel2.pcfgs (F := Bits))) bodies_eq
theorem frame_words : Cert.quiescent_Kernel2 := fun m ρ h => by
  rw [defs_eq]
  exact Cert.Kernel2Ideal.Exp.frame_experts (F := Bits) _ m ρ (Cert.Kernel2Ideal.Exp.tables_of m (Cert.Kernel2Ideal.Exp.inRange_of m h))

/-- The experts' kernel and their reference end with the same result. -/
theorem algebraic_experts : Cert.algebraic_Kernel2Ideal_Reference2Ideal := by
  intro m g m' g' hpre hag
  have hr := Cert.Kernel2Ideal.Exp.inRange_of m hpre
  refine ⟨Cert.Kernel2Ideal.Exp.G4 (Cert.Kernel2Ideal.Exp.admOf m hr) m, ?_, ?_⟩
  · exact (θ_run _ _ _).mono (fun _ h c => ⟨((h.1 c).1).trans (Cert.Kernel2Ideal.Exp.array_eq (Cert.Kernel2Ideal.Exp.admOf m hr) m hr.1 hr.2 c), (h.1 c).2⟩)
      (Cert.Kernel2Ideal.Exp.result_experts _ m g (Cert.Kernel2Ideal.Exp.tables_of m hr))
  · have h := Cert.Reference2Ideal.Ref.run m' g' (fun c i => by
      rw [(hag c).2.1, show c = 0 from Subsingleton.elim _ _]; exact hr.1 i)
    refine (θ_run _ _ _).mono (fun r h c => ⟨(h c).1.trans ?_, (h c).2⟩) h
    rw [(hag c).1, (hag c).2.1, (hag c).2.2.1, (hag c).2.2.2.1, (hag c).2.2.2.2.1, (hag c).2.2.2.2.2, show c = 0 from Subsingleton.elim _ _]
    rfl

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite_scores.Finite.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Ref.frame m ρ, fun m ρ _ => Cert.ReferenceIdeal.Ref.frame m ρ,
    frame_words, frame_ideal, fun m ρ _ => Cert.Reference2Ideal.Ref.frame m ρ, fun m ρ _ => Cert.Reference2Ideal.Ref.frame m ρ,
    preserves, @algebraic Cert.Pre_finite_scores.Finite.facts, trivial, algebraic_experts⟩

end Cert.Proof

end
